-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = Layout.blockN ⟨3, ![4, 512, 4096]⟩ ⟨3, ![4, 1024, 4096]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x1024x2048 : Shape := ⟨3, ![4, 1024, 2048]⟩
abbrev S_ : Shape := ⟨0, ![]⟩
abbrev S4x512x2048 : Shape := ⟨3, ![4, 512, 2048]⟩
abbrev S2048x2048 : Shape := ⟨2, ![2048, 2048]⟩
abbrev S2x2048x256 : Shape := ⟨3, ![2, 2048, 256]⟩
abbrev S4x2048x256 : Shape := ⟨3, ![4, 2048, 256]⟩
abbrev S2 : Shape := ⟨1, ![2]⟩
abbrev S4 : Shape := ⟨1, ![4]⟩
abbrev S1 : Shape := ⟨1, ![1]⟩
abbrev S1x2048x256 : Shape := ⟨3, ![1, 2048, 256]⟩
abbrev S2048x256 : Shape := ⟨2, ![2048, 256]⟩
abbrev S512x2048 : Shape := ⟨2, ![512, 2048]⟩
abbrev S512x256 : Shape := ⟨2, ![512, 256]⟩
abbrev S1x512x256 : Shape := ⟨3, ![1, 512, 256]⟩
abbrev S4x512x4096 : Shape := ⟨3, ![4, 512, 4096]⟩

abbrev nBuf : Space → Nat
  | .hbm => 35
  | .vmem => 6
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S4x1024x2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4x512x2048, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S4x512x2048, .f32⟩
  | .hbm, ⟨31, _⟩ => ⟨S2048x2048, .f32⟩
  | .hbm, ⟨32, _⟩ => ⟨S2048x2048, .f32⟩
  | .hbm, ⟨33, _⟩ => ⟨S2048x4096, .f32⟩
  | .hbm, ⟨34, _⟩ => ⟨S4x512x4096, .f32⟩
  | .local _ .vmem, ⟨0, _⟩ => ⟨S2048x2048, .f32⟩
  | .local _ .vmem, ⟨1, _⟩ => ⟨S2048x2048, .f32⟩
  | .local _ .vmem, ⟨2, _⟩ => ⟨S2x2048x256, .f32⟩
  | .local _ .vmem, ⟨3, _⟩ => ⟨S2x2048x256, .f32⟩
  | .local _ .vmem, ⟨4, _⟩ => ⟨S4x2048x256, .f32⟩
  | .local _ .vmem, ⟨5, _⟩ => ⟨S2x2048x256, .f32⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_c_3 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_c_9 : Ref sig .tc := ⟨.hbm, 25, rfl⟩
abbrev main_v14 : Ref sig .tc := ⟨.hbm, 26, rfl⟩
abbrev main_v15 : Ref sig .tc := ⟨.hbm, 27, rfl⟩
abbrev main_c_10 : Ref sig .tc := ⟨.hbm, 28, rfl⟩
abbrev main_c_11 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v17 : BitVec 32 := Scalar.muli v6 c2_i32_11
  let v18 : BitVec 32 := Scalar.addi c0_i32_12 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v19 : BitVec 32 := Scalar.muli v5 c1_i32_13
  let v20 : BitVec 32 := Scalar.addi v18 v19
  v20.toNat
def k0_dev2 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v63 : BitVec 32 := Scalar.muli v6 c2_i32_63
  let v64 : BitVec 32 := Scalar.addi c0_i32_64 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v65 : BitVec 32 := Scalar.muli v5 c1_i32_65
  let v66 : BitVec 32 := Scalar.addi v64 v65
  v66.toNat
def k0_dev3 (d0 : Dev nD) : Nat :=
  let c0_i32_157 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_156 : BitVec 32 := 2#32
  let v141 : BitVec 32 := Scalar.muli v6 c2_i32_156
  let v142 : BitVec 32 := Scalar.addi c0_i32_157 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v143 : BitVec 32 := Scalar.muli v5 c1_i32_158
  let v144 : BitVec 32 := Scalar.addi v142 v143
  v144.toNat
def k0_dev4 (d0 : Dev nD) : Nat :=
  let c0_i32_286 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_285 : BitVec 32 := 2#32
  let v248 : BitVec 32 := Scalar.muli v6 c2_i32_285
  let v249 : BitVec 32 := Scalar.addi c0_i32_286 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_287 : BitVec 32 := 1#32
  let v250 : BitVec 32 := Scalar.muli v5 c1_i32_287
  let v251 : BitVec 32 := Scalar.addi v249 v250
  v251.toNat
def k0_dev5 (d0 : Dev nD) : Nat :=
  let c0_i32_420 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_419 : BitVec 32 := 2#32
  let v360 : BitVec 32 := Scalar.muli v6 c2_i32_419
  let v361 : BitVec 32 := Scalar.addi c0_i32_420 v360
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_421 : BitVec 32 := 1#32
  let v362 : BitVec 32 := Scalar.muli v5 c1_i32_421
  let v363 : BitVec 32 := Scalar.addi v361 v362
  v363.toNat
def k0_dev6 (d0 : Dev nD) : Nat :=
  let c0_i32_554 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_553 : BitVec 32 := 2#32
  let v472 : BitVec 32 := Scalar.muli v6 c2_i32_553
  let v473 : BitVec 32 := Scalar.addi c0_i32_554 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_555 : BitVec 32 := 1#32
  let v474 : BitVec 32 := Scalar.muli v5 c1_i32_555
  let v475 : BitVec 32 := Scalar.addi v473 v474
  v475.toNat
def k0_dev7 (d0 : Dev nD) : Nat :=
  let c0_i32_688 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_687 : BitVec 32 := 2#32
  let v584 : BitVec 32 := Scalar.muli v6 c2_i32_687
  let v585 : BitVec 32 := Scalar.addi c0_i32_688 v584
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_689 : BitVec 32 := 1#32
  let v586 : BitVec 32 := Scalar.muli v5 c1_i32_689
  let v587 : BitVec 32 := Scalar.addi v585 v586
  v587.toNat
def k0_dev8 (d0 : Dev nD) : Nat :=
  let c0_i32_823 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_822 : BitVec 32 := 2#32
  let v696 : BitVec 32 := Scalar.muli v6 c2_i32_822
  let v697 : BitVec 32 := Scalar.addi c0_i32_823 v696
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_824 : BitVec 32 := 1#32
  let v698 : BitVec 32 := Scalar.muli v5 c1_i32_824
  let v699 : BitVec 32 := Scalar.addi v697 v698
  v699.toNat
def k0_dev9 (d0 : Dev nD) : Nat :=
  let c0_i32_958 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_957 : BitVec 32 := 2#32
  let v808 : BitVec 32 := Scalar.muli v6 c2_i32_957
  let v809 : BitVec 32 := Scalar.addi c0_i32_958 v808
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_959 : BitVec 32 := 1#32
  let v810 : BitVec 32 := Scalar.muli v5 c1_i32_959
  let v811 : BitVec 32 := Scalar.addi v809 v810
  v811.toNat
def k0_dev10 (d0 : Dev nD) : Nat :=
  let c0_i32_1093 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1092 : BitVec 32 := 2#32
  let v920 : BitVec 32 := Scalar.muli v6 c2_i32_1092
  let v921 : BitVec 32 := Scalar.addi c0_i32_1093 v920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1094 : BitVec 32 := 1#32
  let v922 : BitVec 32 := Scalar.muli v5 c1_i32_1094
  let v923 : BitVec 32 := Scalar.addi v921 v922
  v923.toNat
def k0_dev11 (d0 : Dev nD) : Nat :=
  let c0_i32_1228 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1227 : BitVec 32 := 2#32
  let v1032 : BitVec 32 := Scalar.muli v6 c2_i32_1227
  let v1033 : BitVec 32 := Scalar.addi c0_i32_1228 v1032
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1229 : BitVec 32 := 1#32
  let v1034 : BitVec 32 := Scalar.muli v5 c1_i32_1229
  let v1035 : BitVec 32 := Scalar.addi v1033 v1034
  v1035.toNat
def k0_dev12 (d0 : Dev nD) : Nat :=
  let c0_i32_1363 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1362 : BitVec 32 := 2#32
  let v1144 : BitVec 32 := Scalar.muli v6 c2_i32_1362
  let v1145 : BitVec 32 := Scalar.addi c0_i32_1363 v1144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1364 : BitVec 32 := 1#32
  let v1146 : BitVec 32 := Scalar.muli v5 c1_i32_1364
  let v1147 : BitVec 32 := Scalar.addi v1145 v1146
  v1147.toNat
def k0_dev13 (d0 : Dev nD) : Nat :=
  let c0_i32_1498 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1497 : BitVec 32 := 2#32
  let v1256 : BitVec 32 := Scalar.muli v6 c2_i32_1497
  let v1257 : BitVec 32 := Scalar.addi c0_i32_1498 v1256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1499 : BitVec 32 := 1#32
  let v1258 : BitVec 32 := Scalar.muli v5 c1_i32_1499
  let v1259 : BitVec 32 := Scalar.addi v1257 v1258
  v1259.toNat
def k0_dev14 (d0 : Dev nD) : Nat :=
  let c0_i32_1633 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1632 : BitVec 32 := 2#32
  let v1368 : BitVec 32 := Scalar.muli v6 c2_i32_1632
  let v1369 : BitVec 32 := Scalar.addi c0_i32_1633 v1368
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1634 : BitVec 32 := 1#32
  let v1370 : BitVec 32 := Scalar.muli v5 c1_i32_1634
  let v1371 : BitVec 32 := Scalar.addi v1369 v1370
  v1371.toNat
def k0_dev15 (d0 : Dev nD) : Nat :=
  let c0_i32_1768 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1767 : BitVec 32 := 2#32
  let v1480 : BitVec 32 := Scalar.muli v6 c2_i32_1767
  let v1481 : BitVec 32 := Scalar.addi c0_i32_1768 v1480
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1769 : BitVec 32 := 1#32
  let v1482 : BitVec 32 := Scalar.muli v5 c1_i32_1769
  let v1483 : BitVec 32 := Scalar.addi v1481 v1482
  v1483.toNat
def k0_dev16 (d0 : Dev nD) : Nat :=
  let c0_i32_1903 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1902 : BitVec 32 := 2#32
  let v1592 : BitVec 32 := Scalar.muli v6 c2_i32_1902
  let v1593 : BitVec 32 := Scalar.addi c0_i32_1903 v1592
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1904 : BitVec 32 := 1#32
  let v1594 : BitVec 32 := Scalar.muli v5 c1_i32_1904
  let v1595 : BitVec 32 := Scalar.addi v1593 v1594
  v1595.toNat
def k0_dev17 (d0 : Dev nD) : Nat :=
  let c0_i32_2033 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2032 : BitVec 32 := 2#32
  let v1699 : BitVec 32 := Scalar.muli v6 c2_i32_2032
  let v1700 : BitVec 32 := Scalar.addi c0_i32_2033 v1699
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2034 : BitVec 32 := 1#32
  let v1701 : BitVec 32 := Scalar.muli v5 c1_i32_2034
  let v1702 : BitVec 32 := Scalar.addi v1700 v1701
  v1702.toNat
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
  The kernel as a structured program. The printed body is one long sequence of memory operations, sixteen steps written
  out; here the same operations are written once per kind, over a step number, and the printed body is shown to be the
  prologue, the sixteen steps and the epilogue of that structured program, by definitional unfolding.
-/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Run

open Cert.KernelIdeal.Gen
open Idealize.ShloMosaic Idealize.ShloMosaic.TcCoe
open Idealize.SL Idealize.SL.Sem

variable {F : FTy → Type} [FloatOps F]

/-! ## The buffers -/

/-- The rows this device computes for its partner, in HBM. -/
def theirsH : Memref sig .tc .hbm S2048x2048 .f32 := Memref.whole main_v18
/-- The rows this device computes for itself, in HBM. -/
def mineH : Memref sig .tc .hbm S2048x2048 .f32 := Memref.whole main_v17
/-- This device's half of the weights, in HBM. -/
def woH : Memref sig .tc .hbm S2048x4096 .f32 := Memref.whole main_arg1
/-- The result, in HBM. -/
def outH : Memref sig .tc .hbm S2048x4096 .f32 := Memref.whole main_v19
/-- The partner's rows, in VMEM. -/
def theirsV : Memref sig .tc .vmem S2048x2048 .f32 := Memref.whole cc0_scratch0
/-- This device's rows, in VMEM. -/
def mineV : Memref sig .tc .vmem S2048x2048 .f32 := Memref.whole cc0_scratch1
/-- Two slots of weight columns. -/
def woB : Memref sig .tc .vmem S2x2048x256 .f32 := Memref.whole cc0_scratch2
/-- Two slots to send from. -/
def sendB : Memref sig .tc .vmem S2x2048x256 .f32 := Memref.whole cc0_scratch3
/-- Four slots the partner sends into. -/
def recvB : Memref sig .tc .vmem S4x2048x256 .f32 := Memref.whole cc0_scratch4
/-- Two slots of results. -/
def resB : Memref sig .tc .vmem S2x2048x256 .f32 := Memref.whole cc0_scratch5

/-- A slot of a two-slot buffer lies inside it. -/
theorem inb2 (s : Fin 2) : ∀ a, (![s.val, 0, 0] : Fin 3 → Nat) a + S1x2048x256.size a ≤ S2x2048x256.size a := by
  revert s; decide
/-- A slot of the four-slot buffer lies inside it. -/
theorem inb4 (s : Fin 4) : ∀ a, (![s.val, 0, 0] : Fin 3 → Nat) a + S1x2048x256.size a ≤ S4x2048x256.size a := by
  revert s; decide
/-- A band of 512 rows of a slot lies inside the two-slot buffer. -/
theorem inbBand (s : Fin 2) (i : Fin 4) : ∀ a, (![s.val, 512 * i.val, 0] : Fin 3 → Nat) a + S1x512x256.size a ≤ S2x2048x256.size a := by
  revert s i; decide
/-- A band of 512 rows lies inside the square block. -/
theorem inbRows (i : Fin 4) : ∀ a, (![512 * i.val, 0] : Fin 2 → Nat) a + S512x2048.size a ≤ S2048x2048.size a := by
  revert i; decide
/-- A band of 256 columns lies inside the wide array. -/
theorem inbCols (j : Fin 16) : ∀ a, (![0, 256 * j.val] : Fin 2 → Nat) a + S2048x256.size a ≤ S2048x4096.size a := by
  revert j; decide
/-- A semaphore of an array of two. -/
theorem inbSem2 (s : Fin 2) : ∀ a, (![s.val] : Fin 1 → Nat) a + S1.size a ≤ S2.size a := by
  revert s; decide
/-- A semaphore of an array of four. -/
theorem inbSem4 (s : Fin 4) : ∀ a, (![s.val] : Fin 1 → Nat) a + S1.size a ≤ S4.size a := by
  revert s; decide

/-- Slot `s` of a two-slot buffer, as a matrix. -/
def slot2 (B : Memref sig .tc .vmem S2x2048x256 .f32) (s : Fin 2) : Memref sig .tc .vmem S2048x256 .f32 :=
  (B.slice (Rect.unit (s := S2x2048x256) ![s.val, 0, 0] S1x2048x256.size (inb2 s)) (fun _ => rfl)).squeeze S2048x256 squeezes_S1x2048x256_S2048x256
/-- Slot `s` of a four-slot buffer, as a matrix. -/
def slot4 (B : Memref sig .tc .vmem S4x2048x256 .f32) (s : Fin 4) : Memref sig .tc .vmem S2048x256 .f32 :=
  (B.slice (Rect.unit (s := S4x2048x256) ![s.val, 0, 0] S1x2048x256.size (inb4 s)) (fun _ => rfl)).squeeze S2048x256 squeezes_S1x2048x256_S2048x256
/-- Columns `256 j … 256 j + 255` of a wide array. -/
def cols (B : Memref sig .tc .hbm S2048x4096 .f32) (j : Fin 16) : Memref sig .tc .hbm S2048x256 .f32 :=
  B.slice (Rect.unit (s := S2048x4096) ![0, 256 * j.val] S2048x256.size (inbCols j)) (fun _ => rfl)

/-- Semaphore `s` of an array of two. -/
def sem2 (A : DmaSems sig S2) (s : Fin 2) : DmaSem sig :=
  ((A.slice (Rect.unit (s := S2) ![s.val] S1.size (inbSem2 s))).squeeze S_ squeezes_S1_S_).sem
/-- Semaphore `s` of an array of four. -/
def sem4 (A : DmaSems sig S4) (s : Fin 4) : DmaSem sig :=
  ((A.slice (Rect.unit (s := S4) ![s.val] S1.size (inbSem4 s))).squeeze S_ squeezes_S1_S_).sem

/-- The semaphores of the copies of the two row blocks. -/
def inSem (s : Fin 2) : DmaSem sig := sem2 cc0_scratch6 s
/-- The semaphores of the weight columns. -/
def woSem (s : Fin 2) : DmaSem sig := sem2 cc0_scratch7 s
/-- The semaphores a device's own sends raise on it. -/
def sendSem (s : Fin 2) : DmaSem sig := sem2 cc0_scratch8 s
/-- The semaphores the partner's sends raise. -/
def recvSem (s : Fin 4) : DmaSem sig := sem4 cc0_scratch9 s
/-- The semaphores of the copies of the results. -/
def outSem (s : Fin 2) : DmaSem sig := sem2 cc0_scratch10 s
/-- The barrier semaphore. -/
def barSem : Sem sig := (SemArray.scalar (sig.barrier 0 rfl) : Sems sig S_).sem

/-- The slot of step `j` among two. -/
def par (j : Fin 16) : Fin 2 := ⟨j.val % 2, Nat.mod_lt _ (by decide)⟩
/-- The slot of step `j` among four. -/
def quad (j : Fin 16) : Fin 4 := ⟨j.val % 4, Nat.mod_lt _ (by decide)⟩

/-- The partner of a device: the other device of its column of the mesh. -/
def peer (d : Dev nD) : Dev nD := ⟨k0_dev1 d, k0_dev1_lt d⟩

/-! ## The operations -/

/-- The programs of the kernel. -/
abbrev P (F : FTy → Type) [FloatOps F] := Prog (TpuEff nD τ sig (Elt F) Λ₀ .tc)

/-- One band of a product, from the rows and the slot of columns. -/
def dotPay (a : Vec F S512x2048 .f32) (w : Vec F S1x2048x256 .f32) : FVec F S1x512x256 .f32 :=
  shapeCast S1x512x256 (matmul dot_S512x2048_S2048x256_S512x256_1_0_0_1_n_n none a
    (shapeCast S2048x256 w shapeCasts_S1x2048x256_S2048x256 : FVec F S2048x256 .f32) (constant S512x256 .f32 0x00000000#32) : FVec F S512x256 .f32)
    shapeCasts_S512x256_S1x512x256

/-- The sum of two slots. -/
def addPay (a b : Vec F S1x2048x256 .f32) : FVec F S1x2048x256 .f32 :=
  shapeCast S1x2048x256 (addf (shapeCast S2048x256 a shapeCasts_S1x2048x256_S2048x256 : FVec F S2048x256 .f32)
    (shapeCast S2048x256 b shapeCasts_S1x2048x256_S2048x256 : FVec F S2048x256 .f32) : FVec F S2048x256 .f32) shapeCasts_S2048x256_S1x2048x256

/-- One band of a product: rows of `A` against slot `s` of the weights, into slot `s` of `D`. -/
def band (A : Memref sig .tc .vmem S2048x2048 .f32) (D : Memref sig .tc .vmem S2x2048x256 .f32) (s : Fin 2) (i : Fin 4) : P F PUnit := do
  let a : Vec F S512x2048 .f32 ← Prog.lift (.load A (Rect.unit (s := S2048x2048) ![512 * i.val, 0] S512x2048.size (inbRows i)).toLoadRect (View.loadsAt_vmem h_S512x2048))
  let w : Vec F S1x2048x256 .f32 ← Prog.lift (.load woB (Rect.unit (s := S2x2048x256) ![s.val, 0, 0] S1x2048x256.size (inb2 s)).toLoadRect (View.loadsAt_vmem h_S1x2048x256))
  let _ : Vec F S1x512x256 .f32 ← Prog.lift (.load D (Rect.unit (s := S2x2048x256) ![s.val, 512 * i.val, 0] S1x512x256.size (inbBand s i)).toLoadRect (View.loadsAt_vmem h_S1x512x256))
  Prog.lift (.store D (Rect.unit (s := S2x2048x256) ![s.val, 512 * i.val, 0] S1x512x256.size (inbBand s i)) (dotPay a w) Finset.univ (View.stores_vmem_bits_univ h_S1x512x256 rfl) (.inl rfl))

/-- The four bands of a product. -/
def product (A : Memref sig .tc .vmem S2048x2048 .f32) (D : Memref sig .tc .vmem S2x2048x256 .f32) (s : Fin 2) : P F PUnit := do
  band A D s 0
  band A D s 1
  band A D s 2
  band A D s 3

/-- Start the copy of the weight columns of step `j`. -/
def startWo (j : Fin 16) : P F PUnit :=
  Prog.lift (.enqueueDma (cols woH j) (.here (slot2 woB (par j))) (.dma (woSem (par j))) (View.wordExact_bits rfl) ((View.wordExact_bits rfl).reshape _ _) ⟨Or.inl rfl, trivial⟩)
/-- Wait for it. -/
def waitWo (j : Fin 16) : P F PUnit :=
  Prog.lift (.waitDma2 (woSem (par j)) (cols woH j) (slot2 woB (par j)) (View.wordExact_bits rfl) ((View.wordExact_bits rfl).reshape _ _))
/-- Start the send of step `j`. -/
def startSend (d : Dev nD) (j : Fin 16) : P F PUnit :=
  Prog.lift (.enqueueDma (slot2 sendB (par j)) (.remote (Dev.tc (peer d)) (slot4 recvB (quad j)) (.dma (sendSem (par j)))) (.dma (recvSem (quad j)))
    ((View.wordExact_bits rfl).reshape _ _) ((View.wordExact_bits rfl).reshape _ _) ⟨⟨rfl, Or.inl rfl⟩, trivial⟩)
/-- Wait until the slot of the send of step `j` has been read. -/
def waitSend (j : Fin 16) : P F PUnit :=
  Prog.lift (.waitDma2 (sendSem (par j)) (slot4 recvB (quad j)) (slot2 sendB (par j)) ((View.wordExact_bits rfl).reshape _ _) ((View.wordExact_bits rfl).reshape _ _))
/-- Wait until the partner's send of step `j` has landed. -/
def waitRecv (j : Fin 16) : P F PUnit :=
  Prog.lift (.waitDma2 (recvSem (quad j)) (slot2 sendB (par j)) (slot4 recvB (quad j)) ((View.wordExact_bits rfl).reshape _ _) ((View.wordExact_bits rfl).reshape _ _))
/-- Start the copy of the result of step `j`. -/
def startOut (j : Fin 16) : P F PUnit :=
  Prog.lift (.enqueueDma (slot2 resB (par j)) (.here (cols outH j)) (.dma (outSem (par j))) ((View.wordExact_bits rfl).reshape _ _) (View.wordExact_bits rfl) ⟨Or.inl rfl, trivial⟩)
/-- Wait for it. -/
def waitOut (j : Fin 16) : P F PUnit :=
  Prog.lift (.waitDma2 (outSem (par j)) (slot2 resB (par j)) (cols outH j) ((View.wordExact_bits rfl).reshape _ _) (View.wordExact_bits rfl))

/-- Add the slot received at step `j` to the slot of results. -/
def addRecv (j : Fin 16) : P F PUnit := do
  let a : Vec F S1x2048x256 .f32 ← Prog.lift (.load resB (Rect.unit (s := S2x2048x256) ![(par j).val, 0, 0] S1x2048x256.size (inb2 (par j))).toLoadRect (View.loadsAt_vmem h_S1x2048x256))
  let b : Vec F S1x2048x256 .f32 ← Prog.lift (.load recvB (Rect.unit (s := S4x2048x256) ![(quad j).val, 0, 0] S1x2048x256.size (inb4 (quad j))).toLoadRect (View.loadsAt_vmem h_S1x2048x256))
  let _ : Vec F S1x2048x256 .f32 ← Prog.lift (.load resB (Rect.unit (s := S2x2048x256) ![(par j).val, 0, 0] S1x2048x256.size (inb2 (par j))).toLoadRect (View.loadsAt_vmem h_S1x2048x256))
  Prog.lift (.store resB (Rect.unit (s := S2x2048x256) ![(par j).val, 0, 0] S1x2048x256.size (inb2 (par j))) (addPay a b) Finset.univ (View.stores_vmem_bits_univ h_S1x2048x256 rfl) (.inl rfl))

/-- Finish step `j`: receive, add, start the copy of the result. -/
def finish (j : Fin 16) : P F PUnit := do
  waitRecv j
  addRecv j
  startOut j

/-- Before the steps: start the copies of the two row blocks and of the first weight columns, meet the partner, and wait
    for the row blocks. Returns the device. -/
def prologue : P F (Dev nD) := do
  let d : Dev nD ← Prog.lift .deviceId
  Prog.lift (.enqueueDma theirsH (.here theirsV) (.dma (inSem 0)) (Memref.isWhole_whole _).wordExact (Memref.isWhole_whole _).wordExact ⟨Or.inl rfl, trivial⟩)
  Prog.lift (.enqueueDma mineH (.here mineV) (.dma (inSem 1)) (Memref.isWhole_whole _).wordExact (Memref.isWhole_whole _).wordExact ⟨Or.inl rfl, trivial⟩)
  startWo 0
  semSignalWord (peer d) barSem 1#32
  semWaitWord barSem 1#32
  Prog.lift (.waitDma2 (inSem 0) theirsH theirsV (Memref.isWhole_whole _).wordExact (Memref.isWhole_whole _).wordExact)
  Prog.lift (.waitDma2 (inSem 1) mineH mineV (Memref.isWhole_whole _).wordExact (Memref.isWhole_whole _).wordExact)
  pure d

/-- The first half of step `j`, the weight columns apart: the product for the partner, and its send. -/
def stepSend (d : Dev nD) (j : Fin 16) : P F PUnit := do
  product theirsV sendB (par j)
  startSend d j

/-- The second half of step `j`: this device's own product. -/
def stepMine (j : Fin 16) : P F PUnit := product mineV resB (par j)

/-- Step 0. -/
def step0 (d : Dev nD) : P F PUnit := do
  waitWo 0
  startWo 1
  stepSend d 0
  stepMine 0

/-- Step 1. -/
def step1 (d : Dev nD) : P F PUnit := do
  waitWo 1
  startWo 2
  stepSend d 1
  stepMine 1
  finish 0

/-- A later step `j + 2`, but the last. -/
def stepMid (d : Dev nD) (j : Fin 16) (h : j.val + 3 < 16) : P F PUnit := do
  waitWo ⟨j.val + 2, by omega⟩
  startWo ⟨j.val + 3, h⟩
  waitSend j
  stepSend d ⟨j.val + 2, by omega⟩
  waitOut j
  stepMine ⟨j.val + 2, by omega⟩
  finish ⟨j.val + 1, by omega⟩

/-- The last step. -/
def step15 (d : Dev nD) : P F PUnit := do
  waitWo 15
  waitSend 13
  stepSend d 15
  waitOut 13
  stepMine 15
  finish 14

/-- After the steps. -/
def epilogue : P F PUnit := do
  finish 15
  waitSend 14
  waitSend 15
  waitOut 14
  waitOut 15

/-- The whole kernel. -/
def kernel : P F PUnit := do
  let d : Dev nD ← prologue
  step0 d
  step1 d
  stepMid d 0 (by decide)
  stepMid d 1 (by decide)
  stepMid d 2 (by decide)
  stepMid d 3 (by decide)
  stepMid d 4 (by decide)
  stepMid d 5 (by decide)
  stepMid d 6 (by decide)
  stepMid d 7 (by decide)
  stepMid d 8 (by decide)
  stepMid d 9 (by decide)
  stepMid d 10 (by decide)
  stepMid d 11 (by decide)
  stepMid d 12 (by decide)
  step15 d
  epilogue

set_option maxRecDepth 65536 in
/-- The printed body is the structured kernel. -/
theorem body_eq (t : Fin cfg0.N) : bodyAt0 (F := F) t = kernel (F := F) := by
  chain_rfl

end Cert.KernelIdeal.Run

end
-- ==== Proof.Own.lean ====
/-
  What a device holds of a buffer, and one rule per operation that a device does on its own: a local copy and its wait, a
  band of a product, a whole product, the addition of what was received. A buffer, or a slot of one, is held "at a value":
  the value is what is read through the memref.
-/
module

public import proofs.«01_k».proof.Proof.Program
public import Idealize.ShloMosaic.Lib.Pipeline.Kit
public import Idealize.ShloMosaic.Lib.Rounds
public import Idealize.ShloMosaic.Lib.Transfers
public import Idealize.ShloMosaic.Lib.Writes
public import Idealize.ShloMosaic.Lib.WritesUnit
public import Idealize.ShloMosaic.Lib.ValueLayout
public import Idealize.ShloMosaic.Lib.Pipeline.Value
public import Idealize.ShloMosaic.Lib.Tactic

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The ghost state: the pipeline library's, the protocol's, and the counters of local copies. -/
abbrev UU : Type := UR sig nD τ × (UR sig nD τ × Counters)

local notation "𝕄" => MT nD τ sig ℕ (Elt F) ℕ UU ℕ

/-- The pipeline library's share of the ghost state. -/
abbrev EP : Emb (UR sig nD τ) (MT nD τ sig ℕ (Elt F) ℕ UU ℕ) := embL
/-- The protocol's share of the ghost state. -/
def ER : Emb (UR sig nD τ) (MT nD τ sig ℕ (Elt F) ℕ UU ℕ) :=
  ((Emb.inl : Emb (UR sig nD τ) (UR sig nD τ × Counters)).trans (Emb.inr : Emb (UR sig nD τ × Counters) UU)).trans
    (uEmb (nD := nD) (sig := sig) (Ix := ℕ) (Val := Elt F) (Name := ℕ) (U := UU) (Lvl := ℕ)).toEmb
/-- The rounds' share of the ghost state lies in the part that invariants may hold. -/
instance ER_landsIn : (ER : Emb (UR sig nD τ) 𝕄).LandsIn (upEmb : UEmb _ 𝕄) := by unfold ER; infer_instance
/-- The counters' share of the ghost state. -/
abbrev EC : UEmb Counters (MT nD τ sig ℕ (Elt F) ℕ UU ℕ) := countersEmb

/-- No variants: nothing loops. -/
abbrev 𝒱₀ : Variants := Variants.none

/-! ## Holding a buffer -/

/-- Device `c` holds the elements of `m`, which read `x`. -/
def own (c : Dev nD) {sp : Space} {s : Shape} {e : EltTy} (m : Memref sig .tc sp s e) (x : s.Idx → Elt F e) : sProp 𝕄 :=
  iprop(∃ f : Buf (Elt F) (m.view.loc (c : Thread nD τ)), ⌜m.view.read (Elt F) f = x⌝
    ∗ (m.view.loc (c : Thread nD τ) ↦[m.view.set]{fullShare} f))

/-- Device `c` holds the elements of `m`, at any contents. -/
def held (c : Dev nD) {sp : Space} {s : Shape} {e : EltTy} (m : Memref sig .tc sp s e) : sProp 𝕄 :=
  iprop(∃ f : Buf (Elt F) (m.view.loc (c : Thread nD τ)), (m.view.loc (c : Thread nD τ) ↦[m.view.set]{fullShare} f))

/-- A part of a buffer held at a value can be kept in an invariant. -/
instance own_storable (c : Dev nD) {sp : Space} {s : Shape} {e : EltTy} (m : Memref sig .tc sp s e) (x : s.Idx → Elt F e) :
    BI.Storable (upEmb : UEmb _ 𝕄) (own c m x) := by unfold own; infer_instance
/-- A part of a buffer that is held can be kept in an invariant. -/
instance held_storable (c : Dev nD) {sp : Space} {s : Shape} {e : EltTy} (m : Memref sig .tc sp s e) :
    BI.Storable (upEmb : UEmb _ 𝕄) (held (F := F) c m) := by unfold held; infer_instance

omit [FloatOps F] in
/-- What is held at a value is held. -/
theorem own_held (c : Dev nD) {sp : Space} {s : Shape} {e : EltTy} (m : Memref sig .tc sp s e) (x : s.Idx → Elt F e) :
    (own c m x : sProp 𝕄) ⊢ held c m := by
  unfold own held
  iintro ⟨%f, -, H⟩
  iexists f; iexact H

/-! ## Local copies -/

omit [FloatOps F] in
/-- Starting a local copy: the source, the target and the semaphore at zero go into the copy, which will bring the target
    at the source's value, and the source. -/
theorem wp_startCopy {Λ : Labels} {defs : Defs nD τ sig (Elt F) Λ} (c : Dev nD) {sp sp' : Space} {s : Shape} {e : EltTy}
    {src : Memref sig .tc sp s e} {dst : Memref sig .tc sp' s e} {sem : DmaSem sig}
    {hsrc : src.view.WordExact} {hdst : dst.view.WordExact} {hsem : DmaTarget.Typed (nD := nD) (τ := τ) (p := (Proc.tc : Proc τ)) sp (SemLoc.dma sem) (.here dst)}
    (N : ℕ) (hN : dst.view.dmaCredit = N) (hN0 : 0 < N) (x : s.Idx → Elt F e) (Kt : PUnit → sProp 𝕄) :
    iprop(own c src x ∗ held c dst ∗ semVal ((c : Thread nD τ), .dma sem) 0)
      ⊢ iprop((Transfers.Flight EC (c : Thread nD τ) (.dma sem) 0 N iprop(own c dst x ∗ own c src x) -∗ Kt ⟨⟩)
        -∗ wp frame (wpE defs 𝒱₀ (c : Thread nD τ) none) Set.univ
            (Prog.lift (.enqueueDma src (.here dst) (.dma sem) hsrc hdst hsem)) Kt) := by
  iintro ⟨Hs, Hd, Hv⟩ Hk
  unfold own held
  icases Hs with ⟨%fs, %hfs, Hs⟩
  icases Hd with ⟨%fd, Hd⟩
  iapply (Transfers.wp_dmaLocal EC 𝒱₀ (c : Thread nD τ) none (src := src) (dst := dst) (sm := .dma sem) (fs := fs) (fd := fd) (q := fullShare) 0 N hN hN0 (Finset.Subset.refl _)) $$ [Hs Hd Hv]
  · isplitl [Hs]; · iexact Hs
    isplitl [Hd] <;> iassumption
  iintro Hf
  rw [wp_ret]
  imodintro
  iapply Hk
  iapply (Transfers.Flight_mono EC (c : Thread nD τ) ?_) $$ Hf
  iintro ⟨Hd, Hs⟩
  isplitl [Hd]
  · iexists _
    isplitr
    swap; · iexact Hd
    ipureintro
    exact (View.read_write_univ _ _).trans hfs
  · iexists fs
    isplitr; · ipureintro; exact hfs
    iexact Hs

omit [FloatOps F] in
/-- Waiting for a local copy. -/
theorem wp_waitCopy {Λ : Labels} {defs : Defs nD τ sig (Elt F) Λ} (c : Dev nD) {sp sp' : Space} {s s' : Shape} {e e' : EltTy}
    {src : Memref sig .tc sp s e} {dst : Memref sig .tc sp' s' e'} {sem : DmaSem sig}
    {hsrc : src.view.WordExact} {hdst : dst.view.WordExact}
    (N : ℕ) (hN : dst.view.dmaCredit = N) (D : sProp 𝕄) (O : CellTallies nD τ sig ℕ) (Kt : PUnit → sProp 𝕄) :
    iprop(Transfers.Flight EC (c : Thread nD τ) (.dma sem) 0 N D ∗ (∃ W, owes (c : Thread nD τ) O W) ∗ MayWait (c : Thread nD τ) (.dma sem) 0 O)
      ⊢ iprop((iprop(D ∗ semVal ((c : Thread nD τ), .dma sem) 0 ∗ ∃ W, owes (c : Thread nD τ) O W) -∗ Kt ⟨⟩)
        -∗ wp frame (wpE defs 𝒱₀ (c : Thread nD τ) none) Set.univ
            (Prog.lift (.waitDma2 sem src dst hsrc hdst)) Kt) := by
  iintro ⟨Hf, ⟨%W, HO⟩, Hm⟩ Hk
  iapply (Transfers.wp_waitLocalO EC 𝒱₀ (c : Thread nD τ) none (O := O) (W := W) 0 hN) $$ [Hf HO Hm]
  · isplitl [Hf]; · iexact Hf
    isplitl [HO] <;> iassumption
  iintro ⟨HD, Hv, HO⟩
  rw [wp_ret]
  imodintro
  iapply Hk
  isplitl [HD]; · iexact HD
  isplitl [Hv]; · iexact Hv
  iexists _; iexact HO

/-! ## The values of products -/

/-- Rows `512 i … 512 i + 511` of a square block. -/
def rowsOf (a : Vec F S2048x2048 .f32) (i : Fin 4) : Vec F S512x2048 .f32 :=
  fun y => a ((Rect.unit (s := S2048x2048) ![512 * i.val, 0] S512x2048.size (inbRows i)).emb y)

/-- A band of a product. -/
def bandV (a : Vec F S2048x2048 .f32) (w : Vec F S2048x256 .f32) (i : Fin 4) : FVec F S512x256 .f32 :=
  matmul dot_S512x2048_S2048x256_S512x256_1_0_0_1_n_n none (rowsOf a i : FVec F S512x2048 .f32) (w : FVec F S2048x256 .f32) (constant S512x256 .f32 0x00000000#32)

/-- A product: each row from its band. -/
def prodV (a : Vec F S2048x2048 .f32) (w : Vec F S2048x256 .f32) : Vec F S2048x256 .f32 :=
  fun y => bandV a w ⟨(y (0 : Fin 2)).val / 512, by have h : (y (0 : Fin 2)).val < 2048 := (y (0 : Fin 2)).isLt; omega⟩
    (ix2 ⟨(y (0 : Fin 2)).val % 512, Nat.mod_lt _ (by decide)⟩ (y (1 : Fin 2)))

/-- The rectangle of a band in a two-slot buffer. -/
abbrev bandRect (s : Fin 2) (i : Fin 4) : Rect S2x2048x256 :=
  Rect.unit (s := S2x2048x256) ![s.val, 512 * i.val, 0] S1x512x256.size (inbBand s i)
/-- The rectangle of a slot in a two-slot buffer. -/
abbrev slotRect (s : Fin 2) : Rect S2x2048x256 :=
  Rect.unit (s := S2x2048x256) ![s.val, 0, 0] S1x2048x256.size (inb2 s)

/-- A band lies in its slot. -/
theorem bandRect_subset (s : Fin 2) (i : Fin 4) : (bandRect s i).set ⊆ (slotRect s).set := by
  intro y hy
  rw [Rect.mem_set_unit] at hy ⊢
  intro a
  have h := hy a
  have hi := i.isLt
  fin_cases a
  · simpa using h
  · simp at h ⊢; omega
  · simpa using h

/-- A slot's elements are those of its rectangle. -/
theorem slot2_set (B : Memref sig .tc .vmem S2x2048x256 .f32) (s : Fin 2) :
    (slot2 B s).view.set = (B.access (slotRect s)).set := View.set_reshape _ _

/-- The elements of a band are in its slot. -/
theorem band_set (B : Memref sig .tc .vmem S2x2048x256 .f32) (s : Fin 2) (i : Fin 4) :
    (B.access (bandRect s i)).set ⊆ (slot2 B s).view.set := by
  rw [slot2_set]
  show (B.view.slice (bandRect s i)).set ⊆ (B.view.slice (slotRect s)).set
  rw [View.set_slice, View.set_slice]
  exact Finset.map_subset_map.mpr (bandRect_subset s i)

omit [FloatOps F] in
/-- What is read at row `a`, column `b` of slot `s` is what is read at `(s, a, b)` of the buffer. -/
theorem slot2_read (B : Memref sig .tc .vmem S2x2048x256 .f32) (s : Fin 2) (f : B.view.ty.Contents (Elt F)) (a : Fin 2048) (b : Fin 256) :
    (slot2 B s).view.read (Elt F) f (ix2 a b) = B.view.read (Elt F) f (ix3 s a b) := by
  refine congrArg (B.view.read (Elt F) f) ?_
  show (slotRect s).emb (Shape.reshapeEquiv _ (ix2 a b)) = ix3 s a b
  rw [reshapeEquiv_ix2_1ab]
  funext k
  refine Fin.ext ?_
  fin_cases k
  · show s.val + 1 * 0 = s.val; omega
  · show 0 + 1 * a.val = a.val; omega
  · show 0 + 1 * b.val = b.val; omega

omit [FloatOps F] in
/-- A slot lies where its buffer does. -/
theorem slot2_pt (c : Dev nD) (B : Memref sig .tc .vmem S2x2048x256 .f32) (s : Fin 2) (f : Buf (Elt F) (B.view.loc (c : Thread nD τ))) :
    ((slot2 B s).view.loc (c : Thread nD τ) ↦[(slot2 B s).view.set]{fullShare} f : sProp 𝕄)
      = (B.view.loc (c : Thread nD τ) ↦[(slot2 B s).view.set]{fullShare} f) := rfl

/-! ## A product -/

/-- The payload of a band. -/
def bandPay (a : Vec F S2048x2048 .f32) (w : Vec F S2048x256 .f32) (i : Fin 4) : FVec F S1x512x256 .f32 :=
  shapeCast S1x512x256 (bandV a w i) shapeCasts_S512x256_S1x512x256

/-- One band: the slot of `D` is overwritten in the rows of the band. -/
theorem wp_band {defs : Defs nD τ sig (Elt F) Λ₀} (c : Dev nD) (A : Memref sig .tc .vmem S2048x2048 .f32)
    (D : Memref sig .tc .vmem S2x2048x256 .f32) (s : Fin 2) (i : Fin 4) (a : Vec F S2048x2048 .f32) (w : Vec F S2048x256 .f32)
    (f : Buf (Elt F) (D.view.loc (c : Thread nD τ))) (L : List (View.Piece (Elt F) S2x2048x256 .f32)) (Kt : PUnit → sProp 𝕄) :
    iprop(own c A a ∗ own c (slot2 woB s) w ∗ (D.view.loc (c : Thread nD τ) ↦[(slot2 D s).view.set]{fullShare} D.view.writes (Elt F) f L))
      ⊢ iprop((iprop(own c A a ∗ own c (slot2 woB s) w
            ∗ (D.view.loc (c : Thread nD τ) ↦[(slot2 D s).view.set]{fullShare} D.view.writes (Elt F) f (⟨bandRect s i, bandPay a w i⟩ :: L))) -∗ Kt ⟨⟩)
        -∗ wp frame (wpE defs 𝒱₀ (c : Thread nD τ) none) Set.univ (band A D s i) Kt) := by
  iintro ⟨HA, HW, HD⟩ Hk
  unfold own
  icases HA with ⟨%fa, %hfa, HA⟩
  icases HW with ⟨%fw, %hfw, HW⟩
  ihave HW := (Entails.of_eq (slot2_pt c woB s fw)) $$ HW
  unfold band
  simp only [Prog.bind_lift]
  iapply (wp_load_rect 𝒱₀ (c : Thread nD τ) none Set.univ (m := A) (r := Rect.unit (s := S2048x2048) ![512 * i.val, 0] S512x2048.size (inbRows i)) (S := A.view.set) (q := fullShare) (f := fa) (View.set_slice_subset _ _)) $$ HA
  iintro HA
  iapply (wp_load_rect 𝒱₀ (c : Thread nD τ) none Set.univ (m := woB) (r := slotRect s) (S := (slot2 woB s).view.set) (q := fullShare) (f := fw) (subset_of_eq (slot2_set woB s).symm)) $$ HW
  iintro HW
  iapply (wp_load_rect 𝒱₀ (c : Thread nD τ) none Set.univ (m := D) (r := bandRect s i) (S := (slot2 D s).view.set) (q := fullShare) (f := D.view.writes (Elt F) f L) (band_set D s i)) $$ HD
  iintro HD
  iapply (wp_store_writes 𝒱₀ (c : Thread nD τ) none Set.univ (m := D) (r := bandRect s i) (S := (slot2 D s).view.set) (f := f) (L := L) (band_set D s i)) $$ HD
  iintro HD
  rw [wp_ret]
  imodintro
  iapply Hk
  have ha : (A.access (Rect.unit (s := S2048x2048) ![512 * i.val, 0] S512x2048.size (inbRows i))).read (Elt F) fa = rowsOf a i := by
    subst hfa; rfl
  have hw : shapeCast S2048x256 ((woB.access (slotRect s)).read (Elt F) fw) shapeCasts_S1x2048x256_S2048x256 = w := hfw
  have hv : dotPay ((A.access (Rect.unit (s := S2048x2048) ![512 * i.val, 0] S512x2048.size (inbRows i))).read (Elt F) fa)
      ((woB.access (slotRect s)).read (Elt F) fw) = bandPay a w i := by
    unfold dotPay bandPay bandV
    rw [hw, ha]
  isplitl [HA]
  · iexists fa
    isplitr; · ipureintro; exact hfa
    iexact HA
  isplitl [HW]
  · iexists fw
    isplitr; · ipureintro; exact hfw
    iapply (Entails.of_eq (slot2_pt c woB s fw).symm)
    iexact HW
  rw [← hv]
  iexact HD

/-- A row of the newest band reads that band. -/
theorem read_band_hit (D : Memref sig .tc .vmem S2x2048x256 .f32) (s : Fin 2) (i : Fin 4) (a : Vec F S2048x2048 .f32) (w : Vec F S2048x256 .f32)
    (f : D.view.ty.Contents (Elt F)) (L : List (View.Piece (Elt F) S2x2048x256 .f32)) (r : Fin 2048) (b : Fin 256) (h : r.val / 512 = i.val) :
    D.view.read (Elt F) (D.view.writes (Elt F) f (⟨bandRect s i, bandPay a w i⟩ :: L)) (ix3 s r b) = prodV a w (ix2 r b) := by
  refine (View.read_writes_cons_unit_of_mem D.view f (inbBand s i) (bandPay a w i) L (ix3 s r b)
    (ix3 (⟨0, Nat.one_pos⟩ : Fin 1) (⟨r.val % 512, Nat.mod_lt _ (by decide)⟩ : Fin 512) b) rfl ?_).trans ?_
  · intro k
    fin_cases k
    · show s.val = s.val + 0; omega
    · show r.val = 512 * i.val + r.val % 512; omega
    · show b.val = 0 + b.val; omega
  · have hi : i = ⟨r.val / 512, by have := r.isLt; omega⟩ := Fin.ext h.symm
    unfold bandPay prodV
    rw [shapeCast_ab_1ab_apply, hi]

/-- A row of another band reads what was there. -/
theorem read_band_miss (D : Memref sig .tc .vmem S2x2048x256 .f32) (s : Fin 2) (i : Fin 4) (a : Vec F S2048x2048 .f32) (w : Vec F S2048x256 .f32)
    (f : D.view.ty.Contents (Elt F)) (L : List (View.Piece (Elt F) S2x2048x256 .f32)) (r : Fin 2048) (b : Fin 256) (h : r.val / 512 ≠ i.val) :
    D.view.read (Elt F) (D.view.writes (Elt F) f (⟨bandRect s i, bandPay a w i⟩ :: L)) (ix3 s r b)
      = D.view.read (Elt F) (D.view.writes (Elt F) f L) (ix3 s r b) := by
  refine View.read_writes_cons_unit_of_not_mem D.view f (inbBand s i) (bandPay a w i) L (ix3 s r b) rfl (1 : Fin 3) ?_
  show r.val < 512 * i.val ∨ 512 * i.val + 512 ≤ r.val
  omega

/-- The four bands written, the slot reads the product. -/
theorem read_bands (D : Memref sig .tc .vmem S2x2048x256 .f32) (s : Fin 2) (a : Vec F S2048x2048 .f32) (w : Vec F S2048x256 .f32)
    (f : D.view.ty.Contents (Elt F)) :
    (slot2 D s).view.read (Elt F) (D.view.writes (Elt F) f [⟨bandRect s 3, bandPay a w 3⟩, ⟨bandRect s 2, bandPay a w 2⟩,
      ⟨bandRect s 1, bandPay a w 1⟩, ⟨bandRect s 0, bandPay a w 0⟩]) = prodV a w := by
  funext y
  obtain ⟨r, b, rfl⟩ : ∃ (r : Fin 2048) (b : Fin 256), y = ix2 r b := ⟨y 0, y 1, eq_ix2 y⟩
  rw [slot2_read]
  by_cases h3 : r.val / 512 = 3
  · exact read_band_hit D s 3 a w f _ r b h3
  rw [read_band_miss D s 3 a w f _ r b h3]
  by_cases h2 : r.val / 512 = 2
  · exact read_band_hit D s 2 a w f _ r b h2
  rw [read_band_miss D s 2 a w f _ r b h2]
  by_cases h1 : r.val / 512 = 1
  · exact read_band_hit D s 1 a w f _ r b h1
  rw [read_band_miss D s 1 a w f _ r b h1]
  refine read_band_hit D s 0 a w f _ r b ?_
  have h := r.isLt
  show r.val / 512 = 0
  omega

/-- The four bands: the slot of `D` comes back at the product. -/
theorem wp_product {defs : Defs nD τ sig (Elt F) Λ₀} (c : Dev nD) (A : Memref sig .tc .vmem S2048x2048 .f32)
    (D : Memref sig .tc .vmem S2x2048x256 .f32) (s : Fin 2) (a : Vec F S2048x2048 .f32) (w : Vec F S2048x256 .f32) (Kt : PUnit → sProp 𝕄) :
    iprop(own c A a ∗ own c (slot2 woB s) w ∗ held c (slot2 D s))
      ⊢ iprop((iprop(own c A a ∗ own c (slot2 woB s) w ∗ own c (slot2 D s) (prodV a w)) -∗ Kt ⟨⟩)
        -∗ wp frame (wpE defs 𝒱₀ (c : Thread nD τ) none) Set.univ (product A D s) Kt) := by
  iintro ⟨HA, HW, HD⟩ Hk
  unfold held
  icases HD with ⟨%f, HD⟩
  ihave HD := (Entails.of_eq ((slot2_pt c D s f).trans (show _ = (D.view.loc (c : Thread nD τ) ↦[(slot2 D s).view.set]{fullShare} D.view.writes (Elt F) f [] : sProp 𝕄) from rfl))) $$ HD
  unfold product
  rw [wp_bind]
  iapply (wp_band c A D s 0 a w f []) $$ [HA HW HD]
  · isplitl [HA]; · iexact HA
    isplitl [HW] <;> iassumption
  iintro ⟨HA, HW, HD⟩
  rw [wp_bind]
  iapply (wp_band c A D s 1 a w f _) $$ [HA HW HD]
  · isplitl [HA]; · iexact HA
    isplitl [HW] <;> iassumption
  iintro ⟨HA, HW, HD⟩
  rw [wp_bind]
  iapply (wp_band c A D s 2 a w f _) $$ [HA HW HD]
  · isplitl [HA]; · iexact HA
    isplitl [HW] <;> iassumption
  iintro ⟨HA, HW, HD⟩
  iapply (wp_band c A D s 3 a w f _) $$ [HA HW HD]
  · isplitl [HA]; · iexact HA
    isplitl [HW] <;> iassumption
  iintro ⟨HA, HW, HD⟩
  iapply Hk
  isplitl [HA]; · iexact HA
  isplitl [HW]; · iexact HW
  ihave HD := (Entails.of_eq (slot2_pt c D s _).symm) $$ HD
  unfold own
  iexists _
  isplitr
  swap; · iexact HD
  ipureintro
  exact read_bands D s a w f

/-! ## The addition -/

/-- A four-slot buffer's slot lies where the buffer does. -/
theorem slot4_pt (c : Dev nD) (B : Memref sig .tc .vmem S4x2048x256 .f32) (s : Fin 4) (f : Buf (Elt F) (B.view.loc (c : Thread nD τ))) :
    ((slot4 B s).view.loc (c : Thread nD τ) ↦[(slot4 B s).view.set]{fullShare} f : sProp 𝕄)
      = (B.view.loc (c : Thread nD τ) ↦[(slot4 B s).view.set]{fullShare} f) := rfl

/-- The rectangle of a slot in a four-slot buffer. -/
abbrev slotRect4 (s : Fin 4) : Rect S4x2048x256 :=
  Rect.unit (s := S4x2048x256) ![s.val, 0, 0] S1x2048x256.size (inb4 s)

/-- A slot's elements are those of its rectangle. -/
theorem slot4_set (B : Memref sig .tc .vmem S4x2048x256 .f32) (s : Fin 4) :
    (slot4 B s).view.set = (B.access (slotRect4 s)).set := View.set_reshape _ _

/-- What is read of a slot stored whole: what was stored. -/
theorem read_slot_store (D : Memref sig .tc .vmem S2x2048x256 .f32) (s : Fin 2) (f : D.view.ty.Contents (Elt F)) (x : Vec F S2048x256 .f32) :
    (slot2 D s).view.read (Elt F) (D.view.writes (Elt F) f [⟨slotRect s, shapeCast S1x2048x256 x shapeCasts_S2048x256_S1x2048x256⟩]) = x := by
  have h : (D.access (slotRect s)).read (Elt F) (D.view.writes (Elt F) f [⟨slotRect s, shapeCast S1x2048x256 x shapeCasts_S2048x256_S1x2048x256⟩])
      = shapeCast S1x2048x256 x shapeCasts_S2048x256_S1x2048x256 := View.read_write_univ _ _
  have h' : (slot2 D s).view.read (Elt F) (D.view.writes (Elt F) f [⟨slotRect s, shapeCast S1x2048x256 x shapeCasts_S2048x256_S1x2048x256⟩])
      = shapeCast S2048x256 ((D.access (slotRect s)).read (Elt F) (D.view.writes (Elt F) f [⟨slotRect s, shapeCast S1x2048x256 x shapeCasts_S2048x256_S1x2048x256⟩]))
        shapeCasts_S1x2048x256_S2048x256 := rfl
  rw [h', h]
  funext y
  show x (Shape.reshapeEquiv _ (Shape.reshapeEquiv _ y)) = x y
  rw [Shape.reshapeEquiv_reshapeEquiv, Shape.reshapeEquiv_self]

/-- The addition of what was received at step `j`: the slot of results comes back at the sum. -/
theorem wp_addRecv {defs : Defs nD τ sig (Elt F) Λ₀} (c : Dev nD) (j : Fin 16) (x y : Vec F S2048x256 .f32) (Kt : PUnit → sProp 𝕄) :
    iprop(own c (slot2 resB (par j)) x ∗ own c (slot4 recvB (quad j)) y)
      ⊢ iprop((iprop(own c (slot2 resB (par j)) (addf (x : FVec F S2048x256 .f32) (y : FVec F S2048x256 .f32) : FVec F S2048x256 .f32) ∗ own c (slot4 recvB (quad j)) y) -∗ Kt ⟨⟩)
        -∗ wp frame (wpE defs 𝒱₀ (c : Thread nD τ) none) Set.univ (addRecv j) Kt) := by
  iintro ⟨HX, HY⟩ Hk
  unfold own
  icases HX with ⟨%fx, %hfx, HX⟩
  icases HY with ⟨%fy, %hfy, HY⟩
  ihave HX := (Entails.of_eq (slot2_pt c resB (par j) fx)) $$ HX
  ihave HY := (Entails.of_eq (slot4_pt c recvB (quad j) fy)) $$ HY
  unfold addRecv
  simp only [Prog.bind_lift]
  iapply (wp_load_rect 𝒱₀ (c : Thread nD τ) none Set.univ (m := resB) (r := slotRect (par j)) (S := (slot2 resB (par j)).view.set) (q := fullShare) (f := fx)
    (subset_of_eq (slot2_set resB (par j)).symm)) $$ HX
  iintro HX
  iapply (wp_load_rect 𝒱₀ (c : Thread nD τ) none Set.univ (m := recvB) (r := slotRect4 (quad j)) (S := (slot4 recvB (quad j)).view.set) (q := fullShare) (f := fy)
    (subset_of_eq (slot4_set recvB (quad j)).symm)) $$ HY
  iintro HY
  iapply (wp_load_rect 𝒱₀ (c : Thread nD τ) none Set.univ (m := resB) (r := slotRect (par j)) (S := (slot2 resB (par j)).view.set) (q := fullShare) (f := fx)
    (subset_of_eq (slot2_set resB (par j)).symm)) $$ HX
  iintro HX
  iapply (wp_store_writes₀ 𝒱₀ (c : Thread nD τ) none Set.univ (m := resB) (r := slotRect (par j)) (S := (slot2 resB (par j)).view.set) (f := fx)
    (subset_of_eq (slot2_set resB (par j)).symm)) $$ HX
  iintro HX
  rw [wp_ret]
  imodintro
  iapply Hk
  have hx : shapeCast S2048x256 ((resB.access (slotRect (par j))).read (Elt F) fx) shapeCasts_S1x2048x256_S2048x256 = x := hfx
  have hy : shapeCast S2048x256 ((recvB.access (slotRect4 (quad j))).read (Elt F) fy) shapeCasts_S1x2048x256_S2048x256 = y := hfy
  have hv : addPay ((resB.access (slotRect (par j))).read (Elt F) fx) ((recvB.access (slotRect4 (quad j))).read (Elt F) fy)
      = shapeCast S1x2048x256 (addf (x : FVec F S2048x256 .f32) (y : FVec F S2048x256 .f32) : FVec F S2048x256 .f32) shapeCasts_S2048x256_S1x2048x256 := by
    unfold addPay
    rw [hx, hy]
  isplitl [HX]
  · iexists (resB.view.writes (Elt F) fx [⟨slotRect (par j), shapeCast S1x2048x256 (addf (x : FVec F S2048x256 .f32) (y : FVec F S2048x256 .f32) : FVec F S2048x256 .f32) shapeCasts_S2048x256_S1x2048x256⟩])
    isplitr
    · ipureintro; exact read_slot_store resB (par j) fx _
    iapply (Entails.of_eq (slot2_pt c resB (par j) _).symm)
    rw [← hv]
    iexact HX
  · iexists fy
    isplitr; · ipureintro; exact hfy
    iapply (Entails.of_eq (slot4_pt c recvB (quad j) fy).symm)
    iexact HY

end Cert.KernelIdeal.Run

end
-- ==== Proof.Protocol.lean ====
/-
  What the devices agree on. Every device has, per step, one send into its partner: the partner's slot is written, the
  partner's receive semaphore and the sender's own send semaphore are raised. The semaphores are cells whose rounds are
  numbered; step `n` is round `n / 4` of the receive cell of its slot and round `n / 2` of the send cell of its slot.

  The right to write the partner's slot for a step is passed around: for steps 0 and 1 it comes with the barrier, and for
  step `n + 2` it comes with the partner's send of step `n` (a device's slot for step `n + 2` is free before the device
  sends step `n`).
-/
module

public import proofs.«01_k».proof.Proof.Own

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

/-! ## Devices, slots, cells -/

/-- The partner of the partner is the device. -/
theorem peer_peer (c : Dev nD) : peer (peer c) = c := by revert c; decide

/-- Step `n` as a number below 16. -/
def st (n : ℕ) : Fin 16 := ⟨n % 16, Nat.mod_lt _ (by decide)⟩
/-- The slot of step `n` among two. -/
def p2 (n : ℕ) : Fin 2 := ⟨n % 2, Nat.mod_lt _ (by decide)⟩
/-- The slot of step `n` among four. -/
def q4 (n : ℕ) : Fin 4 := ⟨n % 4, Nat.mod_lt _ (by decide)⟩

/-- The step that a number below 16 names is that number. -/
theorem st_val (j : Fin 16) : st j.val = j := Fin.ext (Nat.mod_eq_of_lt j.isLt)
/-- Two steps later the slot among two is the same. -/
theorem p2_add (n : ℕ) : p2 (n + 2) = p2 n := Fin.ext (Nat.add_mod_right n 2)
/-- Four steps later the slot among four is the same. -/
theorem q4_add (n : ℕ) : q4 (n + 4) = q4 n := Fin.ext (Nat.add_mod_right n 4)

/-- The barrier semaphore of device `c`. -/
abbrev barCell (c : Dev nD) : GSem nD τ sig := ((c : Thread nD τ), .reg barSem)
/-- The semaphore device `c`'s own send of step `n` raises on it. -/
abbrev sendCell (c : Dev nD) (n : ℕ) : GSem nD τ sig := ((c : Thread nD τ), .dma (sendSem (p2 n)))
/-- The semaphore of device `c` that the partner's send of step `n` raises. -/
abbrev recvCell (c : Dev nD) (n : ℕ) : GSem nD τ sig := ((c : Thread nD τ), .dma (recvSem (q4 n)))

/-- The number of the send semaphore of a slot. -/
theorem sendSem_val (s : Fin 2) : (sendSem s).val = 4 + s.val := by revert s; decide
/-- The number of the receive semaphore of a slot. -/
theorem recvSem_val (s : Fin 4) : (recvSem s).val = 6 + s.val := by revert s; decide
/-- The number of the semaphore of a copy of rows. -/
theorem inSem_val (s : Fin 2) : (inSem s).val = s.val := by revert s; decide
/-- The number of the semaphore of a copy of weights. -/
theorem woSem_val (s : Fin 2) : (woSem s).val = 2 + s.val := by revert s; decide
/-- The number of the semaphore of a copy of results. -/
theorem outSem_val (s : Fin 2) : (outSem s).val = 10 + s.val := by revert s; decide

/-- Two steps later the send cell is the same. -/
theorem sendCell_add (c : Dev nD) (n : ℕ) : sendCell c (n + 2) = sendCell c n := by unfold sendCell; rw [p2_add]
/-- Four steps later the receive cell is the same. -/
theorem recvCell_add (c : Dev nD) (n : ℕ) : recvCell c (n + 4) = recvCell c n := by unfold recvCell; rw [q4_add]

/-- What a copy of a slot counts for. -/
abbrev N : ℕ := (slot4 recvB 0).view.dmaCredit
/-- A copy of a slot counts for something. -/
theorem N_pos : 0 < N := View.dmaCredit_pos _ (by decide)
/-- Every receive slot counts for the same. -/
theorem credit_recv (s : Fin 4) : (slot4 recvB s).view.dmaCredit = N := rfl
/-- A send slot counts for what a receive slot counts for. -/
theorem credit_send (s : Fin 2) : (slot2 sendB s).view.dmaCredit = N := rfl

/-! ## The payloads -/

/-- Columns `256 n … 256 n + 255` of a half of the weights. -/
def colsV (w : Vec F S2048x4096 .f32) (n : ℕ) : Vec F S2048x256 .f32 :=
  fun y => w (ix2 (y (0 : Fin 2)) ⟨(256 * n + (y (1 : Fin 2)).val) % 4096, Nat.mod_lt _ (by decide)⟩)

variable (Th : Dev nD → Vec F S2048x2048 .f32) (Wo : Dev nD → Vec F S2048x4096 .f32)

/-- What device `c` sends at step `n`. -/
def sentV (c : Dev nD) (n : ℕ) : Vec F S2048x256 .f32 := prodV (Th c) (colsV (Wo c) n)

/-- Device `c`'s slot for receiving step `n` is free. -/
def recvFree (c : Dev nD) (n : ℕ) : sProp 𝕄 :=
  iprop(held c (slot4 recvB (q4 n)) ∗ reached ER (recvCell c n) (n / 4))
/-- The right for step `n + 2` that goes with the send of step `n`, out of device `c`: its slot for that step. -/
def gift (c : Dev nD) (n : ℕ) : sProp 𝕄 := if n ≤ 13 then recvFree c (n + 2) else iprop(emp)
/-- With the barrier of device `c` come the partner's first two slots. -/
def barPay (c : Dev nD) : sProp 𝕄 := iprop(recvFree (peer c) 0 ∗ recvFree (peer c) 1)
/-- With the receipt of step `n` come the slot, at what the partner sent, and the partner's slot for step `n + 2`. -/
def recvPay (c : Dev nD) (n : ℕ) : sProp 𝕄 :=
  iprop(own c (slot4 recvB (q4 n)) (sentV Th Wo (peer c) n) ∗ gift (peer c) n)
/-- With the end of a send comes its slot. -/
def sendPay (c : Dev nD) (n : ℕ) : sProp 𝕄 := held c (slot2 sendB (p2 n))

/-- A free receive slot can be kept in an invariant. -/
instance recvFree_storable (c : Dev nD) (n : ℕ) : BI.Storable (upEmb : UEmb _ 𝕄) (recvFree (F := F) c n) := by
  unfold recvFree; infer_instance
/-- The right that goes with a send can be kept in an invariant. -/
instance gift_storable (c : Dev nD) (n : ℕ) : BI.Storable (upEmb : UEmb _ 𝕄) (gift (F := F) c n) := by
  unfold gift; split <;> infer_instance
/-- What comes with the barrier can be kept in an invariant. -/
instance barPay_storable (c : Dev nD) : BI.Storable (upEmb : UEmb _ 𝕄) (barPay (F := F) c) := by
  unfold barPay; infer_instance
/-- What comes with a receipt can be kept in an invariant. -/
instance recvPay_storable (c : Dev nD) (n : ℕ) : BI.Storable (upEmb : UEmb _ 𝕄) (recvPay Th Wo c n) := by
  unfold recvPay; infer_instance
/-- What comes with the end of a send can be kept in an invariant. -/
instance sendPay_storable (c : Dev nD) (n : ℕ) : BI.Storable (upEmb : UEmb _ 𝕄) (sendPay (F := F) c n) := by
  unfold sendPay; infer_instance

/-- The rounds in which a semaphore is raised. -/
def busy : SemLoc sig → ℕ → Bool
  | .reg _, r => r == 0
  | .dma i, r => (decide (6 ≤ i.val) && decide (i.val < 10) && decide (r < 4)) || (decide (4 ≤ i.val) && decide (i.val < 6) && decide (r < 8))

/-- What comes with round `r` of a semaphore of device `c`. -/
def pay (c : Dev nD) : SemLoc sig → ℕ → sProp 𝕄
  | .reg _, _ => barPay c
  | .dma i, r => if 6 ≤ i.val then recvPay Th Wo c (4 * r + (i.val - 6)) else sendPay c i.val

/-- What a round of a semaphore counts for. -/
def amt : SemLoc sig → ℕ
  | .reg _ => 1
  | .dma _ => N

/-- The protocol: one duty per busy round. -/
def rd : Rounds.Schedule (GSem nD τ sig) Unit 𝕄 where
  duties g r := if g.1.2 = .tc ∧ busy g.2 r = true then {()} else ∅
  unitless _ := False
  amount g _ _ := amt g.2
  payload g r _ := pay Th Wo g.1.1 g.2 r
  amount_pos g _ _ _ := by
    rcases g with ⟨t, i | i⟩
    · exact Nat.one_pos
    · exact N_pos

/-- What any round hands over can be kept in an invariant. -/
instance rd_storable (g : GSem nD τ sig) (r : ℕ) (d : Unit) : BI.Storable (upEmb : UEmb _ 𝕄) ((rd Th Wo).payload g r d) := by
  show BI.Storable upEmb (pay Th Wo g.1.1 g.2 r)
  rcases g with ⟨t, i | i⟩
  · show BI.Storable upEmb (barPay (F := F) t.1); infer_instance
  · show BI.Storable upEmb (if 6 ≤ i.val then recvPay Th Wo t.1 (4 * r + (i.val - 6)) else sendPay t.1 i.val)
    split <;> infer_instance

/-! ## The rounds of the cells -/

/-- The barrier's round has one duty. -/
theorem duties_bar (c : Dev nD) : (rd Th Wo).duties (barCell c) 0 = {()} := by
  rfl
/-- The round of a receive cell for a step has one duty. -/
theorem duties_recv (c : Dev nD) (n : ℕ) (h : n < 16) : (rd Th Wo).duties (recvCell c n) (n / 4) = {()} := by
  refine if_pos ⟨rfl, ?_⟩
  have h1 := recvSem_val (q4 n)
  have h2 : (q4 n).val = n % 4 := rfl
  simp only [busy, Bool.or_eq_true, Bool.and_eq_true, decide_eq_true_eq]
  omega
/-- The round of a send cell for a step has one duty. -/
theorem duties_send (c : Dev nD) (n : ℕ) (h : n < 16) : (rd Th Wo).duties (sendCell c n) (n / 2) = {()} := by
  refine if_pos ⟨rfl, ?_⟩
  have h1 := sendSem_val (p2 n)
  have h2 : (p2 n).val = n % 2 := rfl
  simp only [busy, Bool.or_eq_true, Bool.and_eq_true, decide_eq_true_eq]
  omega
/-- After the barrier's round nothing more happens on its cell. -/
theorem later_bar (c : Dev nD) : ∀ r, 1 ≤ r → (rd Th Wo).duties (barCell c) r = ∅ := fun r hr => by
  refine if_neg ?_
  simp only [busy, beq_iff_eq]
  omega
/-- After the sixteen steps nothing more happens on a receive cell. -/
theorem later_recv (c : Dev nD) (n : ℕ) (h : 16 ≤ n) : ∀ r, n / 4 ≤ r → (rd Th Wo).duties (recvCell c n) r = ∅ := fun r hr => by
  refine if_neg ?_
  have h1 := recvSem_val (q4 n)
  simp only [busy, Bool.or_eq_true, Bool.and_eq_true, decide_eq_true_eq]
  omega
/-- After the sixteen steps nothing more happens on a send cell. -/
theorem later_send (c : Dev nD) (n : ℕ) (h : 16 ≤ n) : ∀ r, n / 2 ≤ r → (rd Th Wo).duties (sendCell c n) r = ∅ := fun r hr => by
  refine if_neg ?_
  have h1 := sendSem_val (p2 n)
  have h2 : (p2 n).val = n % 2 := rfl
  simp only [busy, Bool.or_eq_true, Bool.and_eq_true, decide_eq_true_eq]
  omega

/-- The barrier's round counts for one. -/
theorem expect_bar (c : Dev nD) : (rd Th Wo).expect (barCell c) 0 = 1 := by
  unfold Schedule.expect Schedule.amountOf; rw [duties_bar, Finset.sum_singleton]; rfl
/-- The round of a receive cell for a step counts for one copy of a slot. -/
theorem expect_recv (c : Dev nD) (n : ℕ) (h : n < 16) : (rd Th Wo).expect (recvCell c n) (n / 4) = N := by
  unfold Schedule.expect Schedule.amountOf; rw [duties_recv Th Wo c n h, Finset.sum_singleton]; rfl
/-- The round of a send cell for a step counts for one copy of a slot. -/
theorem expect_send (c : Dev nD) (n : ℕ) (h : n < 16) : (rd Th Wo).expect (sendCell c n) (n / 2) = N := by
  unfold Schedule.expect Schedule.amountOf; rw [duties_send Th Wo c n h, Finset.sum_singleton]; rfl

/-- The barrier's round hands over the partner's first two slots. -/
theorem payload_bar (c : Dev nD) (u : Unit) : (rd Th Wo).payload (barCell c) 0 u = barPay c := rfl
/-- The round of a receive cell for a step hands over what comes with the receipt of that step. -/
theorem payload_recv (c : Dev nD) (n : ℕ) (u : Unit) : (rd Th Wo).payload (recvCell c n) (n / 4) u = recvPay Th Wo c n := by
  have h1 := recvSem_val (q4 n)
  have h2 : (q4 n).val = n % 4 := rfl
  have h3 : 4 * (n / 4) + ((recvSem (q4 n)).val - 6) = n := by omega
  show (if 6 ≤ (recvSem (q4 n)).val then recvPay Th Wo c (4 * (n / 4) + ((recvSem (q4 n)).val - 6)) else sendPay c (recvSem (q4 n)).val) = _
  rw [if_pos (by omega), h3]
/-- The round of a send cell for a step hands over the slot of that step. -/
theorem payload_send (c : Dev nD) (n : ℕ) (u : Unit) : (rd Th Wo).payload (sendCell c n) (n / 2) u = sendPay c n := by
  have h1 := sendSem_val (p2 n)
  have h2 : (p2 n).val = n % 2 := rfl
  have h3 : p2 (sendSem (p2 n)).val = p2 n := Fin.ext (by show (sendSem (p2 n)).val % 2 = n % 2; omega)
  show (if 6 ≤ (sendSem (p2 n)).val then recvPay Th Wo c (4 * (n / 2) + ((sendSem (p2 n)).val - 6)) else sendPay c (sendSem (p2 n)).val) = _
  rw [if_neg (by omega)]
  unfold sendPay
  rw [h3]

/-- All that the barrier's round hands over. -/
theorem rest_bar (c : Dev nD) : bigSep ((rd Th Wo).duties (barCell c) 0 \ ∅) (fun u => (rd Th Wo).payload (barCell c) 0 u) = barPay c := by
  rw [Finset.sdiff_empty, duties_bar, bigSep_singleton, payload_bar]
/-- All that the round of a receive cell for a step hands over. -/
theorem rest_recv (c : Dev nD) (n : ℕ) (h : n < 16) :
    bigSep ((rd Th Wo).duties (recvCell c n) (n / 4) \ ∅) (fun u => (rd Th Wo).payload (recvCell c n) (n / 4) u) = recvPay Th Wo c n := by
  rw [Finset.sdiff_empty, duties_recv Th Wo c n h, bigSep_singleton, payload_recv]
/-- All that the round of a send cell for a step hands over. -/
theorem rest_send (c : Dev nD) (n : ℕ) (h : n < 16) :
    bigSep ((rd Th Wo).duties (sendCell c n) (n / 2) \ ∅) (fun u => (rd Th Wo).payload (sendCell c n) (n / 2) u) = sendPay c n := by
  rw [Finset.sdiff_empty, duties_send Th Wo c n h, bigSep_singleton, payload_send]

/-! ## What is owed, and the levels -/

/-- What device `c` still owes its partner's receive cells from step `k` on. -/
def owedFrom (c : Dev nD) (k : ℕ) : CellTallies nD τ sig ℕ :=
  ∑ i ∈ Finset.Ico k 16, tallyAt (recvCell (peer c) i) i N
/-- What device `c` owes at launch: the sends, and the barrier. -/
def O₀ (c : Dev nD) : CellTallies nD τ sig ℕ := owedFrom c 0 + tallyAt (barCell (peer c)) 0 1

/-- What is owed from a step on is that step and what is owed from the next on. -/
theorem owedFrom_succ (c : Dev nD) (k : ℕ) (h : k < 16) :
    owedFrom c k = owedFrom c (k + 1) + tallyAt (recvCell (peer c) k) k N := by
  unfold owedFrom
  rw [show Finset.Ico k 16 = insert k (Finset.Ico (k + 1) 16) by ext x; simp only [Finset.mem_Ico, Finset.mem_insert]; omega,
    Finset.sum_insert (by rw [Finset.mem_Ico]; omega), add_comm]
/-- After the last step nothing is owed. -/
theorem owedFrom_end (c : Dev nD) (k : ℕ) (h : 16 ≤ k) : owedFrom c k = 0 := by
  unfold owedFrom
  rw [Finset.Ico_eq_empty (by omega), Finset.sum_empty]

/-- What is owed is owed to a receive cell, at the number of a later step. -/
theorem owedFrom_pos {c : Dev nD} {k : ℕ} {g : GSem nD τ sig} {u : ℕ} (h : 0 < owedFrom c k g u) :
    k ≤ u ∧ u < 16 ∧ g = recvCell (peer c) u := by
  unfold owedFrom at h
  rw [Finset.sum_apply, Finsupp.finset_sum_apply] at h
  obtain ⟨i, hi, hne⟩ := Finset.exists_ne_zero_of_sum_ne_zero (Nat.pos_iff_ne_zero.mp h)
  rw [Finset.mem_Ico] at hi
  rw [tallyAt_apply] at hne
  by_cases hg : g = recvCell (peer c) i ∧ u = i
  · obtain ⟨rfl, rfl⟩ := hg; exact ⟨hi.1, hi.2, rfl⟩
  · rw [if_neg hg] at hne; exact absurd rfl hne

/-- The indices used: the steps. -/
def L (g : GSem nD τ sig) : Finset ℕ := if g.1.2 = .tc then Finset.range 16 else ∅
/-- The levels: local copies and ends of sends at 0, the barrier at 1, the receipt of step `n` at `n + 2`. -/
def lv (g : GSem nD τ sig) (n : ℕ) : ℕ :=
  match g.2 with
  | .reg _ => 1
  | .dma i => if 6 ≤ i.val ∧ i.val < 10 then n + 2 else 0

/-- Off the main core no index is used. -/
theorem L_of_ne (g : GSem nD τ sig) (h : g.1.2 ≠ .tc) : L g = ∅ := if_neg h
/-- On the main core every step is an index. -/
theorem L_tc (c : Dev nD) (sm : SemLoc sig) : L ((c : Thread nD τ), sm) = Finset.range 16 := if_pos rfl
/-- The level of the receipt of a step. -/
theorem lv_recv (c : Dev nD) (n u : ℕ) : lv (recvCell c n) u = u + 2 := by
  have h1 := recvSem_val (q4 n)
  have h2 : (q4 n).val = n % 4 := rfl
  exact if_pos (by omega)

/-- A wait below every step still owed is allowed. -/
theorem mayWait (c : Dev nD) (k : ℕ) (sm : SemLoc sig) (ι : ℕ) (hι : ι < 16) (h : lv ((c : Thread nD τ), sm) ι < k + 2) :
    (levAts L lv : sProp 𝕄) ⊢ MayWait (c : Thread nD τ) sm ι (owedFrom c k) :=
  MayOwe.of_cut (L := L) (lev := lv) (lv ((c : Thread nD τ), sm) ι)
    (fun p hp => by rw [Finset.mem_singleton.mp hp, L_tc, Finset.mem_range]; exact hι)
    (fun g u hg => by
      obtain ⟨-, h2, rfl⟩ := owedFrom_pos hg
      rw [L_tc, Finset.mem_range]; exact h2)
    (fun p hp => by rw [Finset.mem_singleton.mp hp])
    (fun g u hg => by
      obtain ⟨h1, -, rfl⟩ := owedFrom_pos hg
      rw [lv_recv]; omega)

/-- A wait on a semaphore of a local copy or of an own send is allowed. -/
theorem mayWait_low (c : Dev nD) (k : ℕ) (i : DmaSem sig) (hi : ¬ (6 ≤ i.val ∧ i.val < 10)) :
    (levAts L lv : sProp 𝕄) ⊢ MayWait (c : Thread nD τ) (.dma i) 0 (owedFrom c k) :=
  mayWait c k (.dma i) 0 (by decide) (by rw [show lv ((c : Thread nD τ), .dma i) 0 = 0 from if_neg hi]; omega)
/-- A wait for a step while later steps only are owed is allowed. -/
theorem mayWait_recv (c : Dev nD) (n k : ℕ) (hn : n < 16) (h : n < k) :
    (levAts L lv : sProp 𝕄) ⊢ MayWait (c : Thread nD τ) (.dma (recvSem (q4 n))) n (owedFrom c k) :=
  mayWait c k (.dma (recvSem (q4 n))) n hn (by rw [lv_recv]; omega)
/-- A wait at the barrier is allowed: only sends are owed. -/
theorem mayWait_bar (c : Dev nD) (k : ℕ) :
    (levAts L lv : sProp 𝕄) ⊢ MayWait (c : Thread nD τ) (.reg barSem) 0 (owedFrom c k) :=
  mayWait c k (.reg barSem) 0 (by decide) (by show 1 < k + 2; omega)

/-! ## The cells -/

/-- The semaphores of the protocol, the barrier apart. -/
def scSem (k : Fin 6) : SemLoc sig := .dma ⟨4 + k.val, by have := k.isLt; show 4 + k.val < 12; omega⟩
/-- All barrier cells. -/
def barEmb : Dev nD ↪ GSem nD τ sig := ⟨fun c => barCell c, fun _ _ h => congrArg (fun g : GSem nD τ sig => g.1.1) h⟩
/-- The semaphores of the protocol are distinct. -/
theorem scSem_inj : Function.Injective scSem := by decide
/-- All send and receive cells. -/
def scEmb : Dev nD × Fin 6 ↪ GSem nD τ sig :=
  ⟨fun ck => ((ck.1 : Thread nD τ), scSem ck.2), fun _ _ h =>
    Prod.ext (congrArg (fun g : GSem nD τ sig => g.1.1) h) (scSem_inj (congrArg Prod.snd h))⟩
/-- The set of all barrier cells. -/
abbrev barCells : Finset (GSem nD τ sig) := Finset.univ.map barEmb
/-- The set of all send and receive cells. -/
abbrev scCells : Finset (GSem nD τ sig) := Finset.univ.map scEmb

/-- The send semaphore of a step, as one of the protocol. -/
theorem send_sc (n : ℕ) : (.dma (sendSem (p2 n)) : SemLoc sig) = scSem ⟨n % 2, by omega⟩ :=
  congrArg SemLoc.dma (Fin.ext (sendSem_val (p2 n)))
/-- The receive semaphore of a step, as one of the protocol. -/
theorem recv_sc (n : ℕ) : (.dma (recvSem (q4 n)) : SemLoc sig) = scSem ⟨2 + n % 4, by omega⟩ :=
  congrArg SemLoc.dma (Fin.ext ((recvSem_val (q4 n)).trans (by show 6 + n % 4 = 4 + (2 + n % 4); omega)))

/-- A barrier cell is among the cells. -/
theorem bar_mem (c : Dev nD) : barCell c ∈ (barCells ∪ scCells : Finset (GSem nD τ sig)) :=
  Finset.mem_union_left _ (Finset.mem_map_of_mem barEmb (Finset.mem_univ c))
/-- A send cell is among the cells. -/
theorem send_mem (c : Dev nD) (n : ℕ) : sendCell c n ∈ (barCells ∪ scCells : Finset (GSem nD τ sig)) := by
  unfold sendCell; rw [send_sc]
  exact Finset.mem_union_right _ (Finset.mem_map_of_mem scEmb (Finset.mem_univ (c, _)))
/-- A receive cell is among the cells. -/
theorem recv_mem (c : Dev nD) (n : ℕ) : recvCell c n ∈ (barCells ∪ scCells : Finset (GSem nD τ sig)) := by
  unfold recvCell; rw [recv_sc]
  exact Finset.mem_union_right _ (Finset.mem_map_of_mem scEmb (Finset.mem_univ (c, _)))

/-- The invariants of all cells, at the names `K`. -/
def invs (K : GSem nD τ sig → ℕ) : sProp 𝕄 :=
  bigSep (barCells ∪ scCells) fun g => cellInv ER (rd Th Wo) (K g) g
/-- The invariants may be consulted again and again. -/
instance invs_persistent (K : GSem nD τ sig → ℕ) : BI.Persistent (invs Th Wo K) := by unfold invs; infer_instance

/-- The invariant of one cell, from those of all. -/
theorem inv_at (K : GSem nD τ sig → ℕ) {g : GSem nD τ sig} (hg : g ∈ (barCells ∪ scCells : Finset (GSem nD τ sig))) :
    invs Th Wo K ⊢ cellInv ER (rd Th Wo) (K g) g := bigSep_elim hg

/-- What every step may consult: the invariants and the levels. -/
def ctx (K : GSem nD τ sig → ℕ) : sProp 𝕄 := iprop(invs Th Wo K ∗ levAts L lv)
/-- What every step may consult may be consulted again and again. -/
instance ctx_persistent (K : GSem nD τ sig → ℕ) : BI.Persistent (ctx Th Wo K) := by unfold ctx; infer_instance

end Cert.KernelIdeal.Run

end
-- ==== Proof.Steps.lean ====
/-
  One rule per operation with the partner: a send, the end of a send, a receipt; and the local copies of weight columns and
  of results, by step. A device's bookkeeping is kept in runs over the step numbers.
-/
module

public import proofs.«01_k».proof.Proof.Protocol

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

variable (Th : Dev nD → Vec F S2048x2048 .f32) (Wo : Dev nD → Vec F S2048x4096 .f32) (K : GSem nD τ sig → ℕ)

/-- What device `c` owes, from step `k` on. -/
def debt (c : Dev nD) (k : ℕ) : sProp 𝕄 := iprop(∃ W, owes (c : Thread nD τ) (owedFrom c k) W)

/-! ## Sends -/

/-- What device `c` pays the send of step `n` with. -/
def sendTok (c : Dev nD) (n : ℕ) : sProp 𝕄 :=
  iprop(dutyTok ER (sendCell c n) (n / 2) () ∗ dutyTok ER (recvCell (peer c) n) (n / 4) ())
/-- Device `c`'s slot for sending step `n` is free. -/
def sendFree (c : Dev nD) (n : ℕ) : sProp 𝕄 :=
  iprop(held c (slot2 sendB (p2 n)) ∗ reached ER (sendCell c n) (n / 2))
/-- The end of the send of step `n` is to be waited for. -/
def sendOut (c : Dev nD) (n : ℕ) : sProp 𝕄 := cred (tallyAt (sendCell c n) 0 N)
/-- Device `c` stands at step `n` on the send cell of its slot. -/
def sendPos (c : Dev nD) (n : ℕ) : sProp 𝕄 := atPos ER (sendCell c n) (n / 2) ∅ 0
/-- Device `c` stands at step `n` on the receive cell of its slot. -/
def recvPos (c : Dev nD) (n : ℕ) : sProp 𝕄 := atPos ER (recvCell c n) (n / 4) ∅ 0
/-- Device `c` may wait for step `n`. -/
def recvCred (c : Dev nD) (n : ℕ) : sProp 𝕄 := cred (tallyAt (recvCell c n) n N)

/-- The send of step `j`: its slot goes to the partner's slot, with this device's slot for step `j + 2`. -/
theorem wp_startSend {defs : Defs nD τ sig (Elt F) Λ₀} (c : Dev nD) (j : Fin 16) (Kt : PUnit → sProp 𝕄) :
    iprop(ctx Th Wo K ∗ own c (slot2 sendB (par j)) (sentV Th Wo c j.val) ∗ reached ER (sendCell c j.val) (j.val / 2)
        ∗ recvFree (peer c) j.val ∗ gift c j.val ∗ sendTok c j.val ∗ debt c j.val)
      ⊢ iprop((iprop(sendOut c j.val ∗ debt c (j.val + 1)) -∗ Kt ⟨⟩)
        -∗ wp frame (wpE defs 𝒱₀ (c : Thread nD τ) none) Set.univ (startSend c j) Kt) := by
  unfold ctx recvFree sendTok debt sendOut held own
  iintro ⟨⟨#HI, -⟩, ⟨%fs, %hfs, Hs⟩, #Hr1, ⟨⟨%fd, Hd⟩, #Hr2⟩, Hg, ⟨Ht1, Ht2⟩, ⟨%W, HO⟩⟩ Hk
  unfold startSend
  iapply (Rounds.wp_send_pointsTo_with 𝒱₀ ER (rd Th Wo) (c : Thread nD τ) none (c' := (peer c : Thread nD τ)) (src := slot2 sendB (par j))
    (dst := slot4 recvB (quad j)) (sS := .dma (sendSem (par j))) (sem := .dma (recvSem (quad j))) (q := fullShare) (fs := fs) (fd := fd)
    (κ₁ := K (sendCell c j.val)) (κ₂ := K (recvCell (peer c) j.val)) (r₁ := j.val / 2) (r₂ := j.val / 4) (d₁ := ()) (d₂ := ())
    (F := gift c j.val)
    (by rw [show ((c : Thread nD τ), SemLoc.dma (sendSem (par j))) = sendCell c j.val from rfl, duties_send Th Wo c j.val j.isLt]; exact Finset.mem_singleton_self _)
    (by rw [show ((peer c : Thread nD τ), SemLoc.dma (recvSem (quad j))) = recvCell (peer c) j.val from rfl, duties_recv Th Wo (peer c) j.val j.isLt]; exact Finset.mem_singleton_self _)
    j.val 0 N (credit_recv (quad j)) rfl rfl (owedFrom c (j.val + 1)) (owedFrom_succ c j.val j.isLt) (W := W)
    (by
      refine BIBase.Entails.trans ?_ (Entails.of_eq (payload_send Th Wo c j.val ()).symm)
      unfold sendPay held
      iintro H
      iexists fs; iexact H)
    (by
      refine BIBase.Entails.trans ?_ (Entails.of_eq (payload_recv Th Wo (peer c) j.val ()).symm)
      unfold recvPay own
      rw [peer_peer]
      iintro ⟨H, Hg⟩
      isplitl [H]
      · iexists _
        isplitr
        swap; · iexact H
        ipureintro
        exact (View.read_write_univ _ _).trans hfs
      · iexact Hg)) $$ [Hs Hd Hg HO Ht1 Ht2]
  · isplitr; · iapply (inv_at Th Wo K (send_mem c j.val)); iexact HI
    isplitr; · iapply (inv_at Th Wo K (recv_mem (peer c) j.val)); iexact HI
    isplitl [Hs]; · iexact Hs
    isplitl [Hd Hg]
    · isplitl [Hd]; · iexact Hd
      iexact Hg
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [Hc]; · iexact Hc
  iexists W; iexact HO

/-- The end of the send of step `j`: its slot is free for step `j + 2`. -/
theorem wp_waitSend {defs : Defs nD τ sig (Elt F) Λ₀} (c : Dev nD) (j : Fin 16) (k : ℕ) (Kt : PUnit → sProp 𝕄) :
    iprop(ctx Th Wo K ∗ sendOut c j.val ∗ sendPos c j.val ∗ debt c k)
      ⊢ iprop((iprop(sendFree c (j.val + 2) ∗ sendPos c (j.val + 2) ∗ debt c k) -∗ Kt ⟨⟩)
        -∗ wp frame (wpE defs 𝒱₀ (c : Thread nD τ) none) Set.univ (waitSend j) Kt) := by
  unfold ctx sendOut sendPos sendFree debt
  iintro ⟨⟨#HI, #Hlev⟩, Hc, Hp, ⟨%W, HO⟩⟩ Hk
  unfold waitSend
  iapply (Rounds.wp_wait_rest_token 𝒱₀ ER (rd Th Wo) (c : Thread nD τ) none (κ := K (sendCell c j.val))
    (wpE_waitDma2_eq (src := slot4 recvB (quad j)) (dst := slot2 sendB (par j)) 𝒱₀ (c : Thread nD τ) none Set.univ) (Set.mem_univ _) 0
    (O := owedFrom c k) (W := W) (R := j.val / 2) (m := 0) (T := ∅)
    ((Nat.zero_add _).trans ((credit_send (par j)).trans (expect_send Th Wo c j.val j.isLt).symm))) $$ [Hc Hp HO]
  · isplitr; · iapply (inv_at Th Wo K (send_mem c j.val)); iexact HI
    isplitl [Hc]; · iexact Hc
    isplitl [HO]; · iexact HO
    isplitr
    · iapply (mayWait_low c k (sendSem (par j)) (by have := sendSem_val (par j); have := (par j).isLt; omega)); iexact Hlev
    iexact Hp
  iintro ⟨HO, Hp, #Hr, Hpay⟩
  ihave Hs := (Entails.of_eq ((rest_send Th Wo c j.val j.isLt).trans (show _ = held c (slot2 sendB (p2 j.val)) from rfl))) $$ Hpay
  rw [wp_ret]
  imodintro
  iapply Hk
  rw [sendCell_add, p2_add, show (j.val + 2) / 2 = j.val / 2 + 1 by omega]
  isplitl [Hs]
  · isplitl [Hs]; · iexact Hs
    iexact Hr
  isplitl [Hp]; · iexact Hp
  iexists _; iexact HO

/-- The receipt of step `n`: the slot at what the partner sent, and the partner's slot for step `n + 2`. -/
theorem wp_waitRecv {defs : Defs nD τ sig (Elt F) Λ₀} (c : Dev nD) (j : Fin 16) (k : ℕ) (hk : j.val < k) (Kt : PUnit → sProp 𝕄) :
    iprop(ctx Th Wo K ∗ recvCred c j.val ∗ recvPos c j.val ∗ debt c k)
      ⊢ iprop((iprop(own c (slot4 recvB (quad j)) (sentV Th Wo (peer c) j.val) ∗ gift (peer c) j.val
            ∗ reached ER (recvCell c (j.val + 4)) ((j.val + 4) / 4) ∗ recvPos c (j.val + 4) ∗ debt c k) -∗ Kt ⟨⟩)
        -∗ wp frame (wpE defs 𝒱₀ (c : Thread nD τ) none) Set.univ (waitRecv j) Kt) := by
  unfold ctx recvCred recvPos debt
  iintro ⟨⟨#HI, #Hlev⟩, Hc, Hp, ⟨%W, HO⟩⟩ Hk
  unfold waitRecv
  iapply (Rounds.wp_wait_rest_token 𝒱₀ ER (rd Th Wo) (c : Thread nD τ) none (κ := K (recvCell c j.val))
    (wpE_waitDma2_eq (src := slot2 sendB (par j)) (dst := slot4 recvB (quad j)) 𝒱₀ (c : Thread nD τ) none Set.univ) (Set.mem_univ _) j.val
    (O := owedFrom c k) (W := W) (R := j.val / 4) (m := 0) (T := ∅)
    ((Nat.zero_add _).trans ((credit_recv (quad j)).trans (expect_recv Th Wo c j.val j.isLt).symm))) $$ [Hc Hp HO]
  · isplitr; · iapply (inv_at Th Wo K (recv_mem c j.val)); iexact HI
    isplitl [Hc]; · iexact Hc
    isplitl [HO]; · iexact HO
    isplitr
    · iapply (mayWait_recv c j.val k j.isLt hk); iexact Hlev
    iexact Hp
  iintro ⟨HO, Hp, #Hr, Hpay⟩
  ihave Hs := (Entails.of_eq (rest_recv Th Wo c j.val j.isLt)) $$ Hpay
  unfold recvPay
  icases Hs with ⟨Hs, Hg⟩
  rw [wp_ret]
  imodintro
  iapply Hk
  rw [recvCell_add, show (j.val + 4) / 4 = j.val / 4 + 1 by omega]
  isplitl [Hs]; · iexact Hs
  isplitl [Hg]; · iexact Hg
  isplitr; · iexact Hr
  isplitl [Hp]; · iexact Hp
  iexists _; iexact HO

/-! ## Weight columns and results -/

/-- What a copy of weight columns counts for. -/
abbrev NW : ℕ := (slot2 woB 0).view.dmaCredit
/-- What a copy of a result counts for. -/
abbrev NO : ℕ := (cols outH 0).view.dmaCredit

/-- The weight columns of step `n` are at home. -/
def woCol (c : Dev nD) (n : ℕ) : sProp 𝕄 := own c (cols woH (st n)) (colsV (Wo c) n)
/-- The weight slot of step `n` is free. -/
def woFree (c : Dev nD) (n : ℕ) : sProp 𝕄 :=
  iprop(held c (slot2 woB (p2 n)) ∗ semVal ((c : Thread nD τ), .dma (woSem (p2 n))) 0)
/-- The weight columns of step `n` are on their way. -/
def woFly (c : Dev nD) (n : ℕ) : sProp 𝕄 :=
  Transfers.Flight EC (c : Thread nD τ) (.dma (woSem (p2 n))) 0 NW iprop(own c (slot2 woB (p2 n)) (colsV (Wo c) n) ∗ woCol Wo c n)

/-- Two steps later the slot of the weights is the same. -/
theorem woFree_add (c : Dev nD) (n : ℕ) : (woFree c (n + 2) : sProp 𝕄) = woFree c n := by unfold woFree; rw [p2_add]

/-- Starting the copy of the weight columns of step `j`. -/
theorem wp_startWo {defs : Defs nD τ sig (Elt F) Λ₀} (c : Dev nD) (j : Fin 16) (Kt : PUnit → sProp 𝕄) :
    iprop(woCol Wo c j.val ∗ woFree c j.val)
      ⊢ iprop((woFly Wo c j.val -∗ Kt ⟨⟩) -∗ wp frame (wpE defs 𝒱₀ (c : Thread nD τ) none) Set.univ (startWo j) Kt) := by
  unfold woFly woCol woFree
  rw [st_val]
  iintro ⟨Hs, Hd, Hv⟩ Hk
  unfold startWo
  iapply (wp_startCopy c (src := cols woH j) (dst := slot2 woB (par j)) (sem := woSem (par j)) NW rfl (View.dmaCredit_pos _ (by decide)) (colsV (Wo c) j.val) Kt) $$ [Hs Hd Hv]
  · isplitl [Hs]; · iexact Hs
    isplitl [Hd]; · iexact Hd
    iexact Hv
  iexact Hk

/-- Waiting for them. -/
theorem wp_waitWo {defs : Defs nD τ sig (Elt F) Λ₀} (c : Dev nD) (j : Fin 16) (k : ℕ) (Kt : PUnit → sProp 𝕄) :
    iprop(ctx Th Wo K ∗ woFly Wo c j.val ∗ debt c k)
      ⊢ iprop((iprop(own c (slot2 woB (par j)) (colsV (Wo c) j.val) ∗ woCol Wo c j.val ∗ semVal ((c : Thread nD τ), .dma (woSem (par j))) 0 ∗ debt c k) -∗ Kt ⟨⟩)
        -∗ wp frame (wpE defs 𝒱₀ (c : Thread nD τ) none) Set.univ (waitWo j) Kt) := by
  unfold ctx woFly debt
  iintro ⟨⟨-, #Hlev⟩, Hf, HO⟩ Hk
  unfold waitWo
  iapply (wp_waitCopy c (src := cols woH j) (dst := slot2 woB (par j)) (sem := woSem (par j)) (hsrc := View.wordExact_bits rfl) (hdst := (View.wordExact_bits rfl).reshape _ _) NW rfl
    iprop(own c (slot2 woB (par j)) (colsV (Wo c) j.val) ∗ woCol Wo c j.val) (owedFrom c k) Kt) $$ [Hf HO]
  · isplitl [Hf]; · iexact Hf
    isplitl [HO]; · iexact HO
    iapply (mayWait_low c k (woSem (par j)) (by have := woSem_val (par j); have := (par j).isLt; omega)); iexact Hlev
  iintro ⟨⟨Hd, Hs⟩, Hv, HO⟩
  iapply Hk
  isplitl [Hd]; · iexact Hd
  isplitl [Hs]; · iexact Hs
  isplitl [Hv]; · iexact Hv
  iexact HO

/-- The result columns of step `n`, at any contents. -/
def outAny (c : Dev nD) (n : ℕ) : sProp 𝕄 := held c (cols outH (st n))

variable (Mi : Dev nD → Vec F S2048x2048 .f32)

/-- This device's own product of step `n`. -/
def ownV (c : Dev nD) (n : ℕ) : Vec F S2048x256 .f32 := prodV (Mi c) (colsV (Wo c) n)
/-- The result columns of step `n`: the own product and what was received. -/
def outV (c : Dev nD) (n : ℕ) : Vec F S2048x256 .f32 :=
  (addf (ownV Wo Mi c n : FVec F S2048x256 .f32) (sentV Th Wo (peer c) n : FVec F S2048x256 .f32) : FVec F S2048x256 .f32)
/-- The result columns of step `n`, done. -/
def outCol (c : Dev nD) (n : ℕ) : sProp 𝕄 := own c (cols outH (st n)) (outV Th Wo Mi c n)
/-- The result slot of step `n` is free. -/
def outFree (c : Dev nD) (n : ℕ) : sProp 𝕄 :=
  iprop(held c (slot2 resB (p2 n)) ∗ semVal ((c : Thread nD τ), .dma (outSem (p2 n))) 0)
/-- The result slot of step `n` holds the own product. -/
def outMine (c : Dev nD) (n : ℕ) : sProp 𝕄 :=
  iprop(own c (slot2 resB (p2 n)) (ownV Wo Mi c n) ∗ semVal ((c : Thread nD τ), .dma (outSem (p2 n))) 0)
/-- The result columns of step `n` are on their way. -/
def outFly (c : Dev nD) (n : ℕ) : sProp 𝕄 :=
  Transfers.Flight EC (c : Thread nD τ) (.dma (outSem (p2 n))) 0 NO iprop(outCol Th Wo Mi c n ∗ own c (slot2 resB (p2 n)) (outV Th Wo Mi c n))

/-- Two steps later the slot of the results is the same. -/
theorem outFree_add (c : Dev nD) (n : ℕ) : (outFree c (n + 2) : sProp 𝕄) = outFree c n := by unfold outFree; rw [p2_add]

/-- Waiting for the copy of the results of step `j`. -/
theorem wp_waitOut {defs : Defs nD τ sig (Elt F) Λ₀} (c : Dev nD) (j : Fin 16) (k : ℕ) (Kt : PUnit → sProp 𝕄) :
    iprop(ctx Th Wo K ∗ outFly Th Wo Mi c j.val ∗ debt c k)
      ⊢ iprop((iprop(outCol Th Wo Mi c j.val ∗ outFree c (j.val + 2) ∗ debt c k) -∗ Kt ⟨⟩)
        -∗ wp frame (wpE defs 𝒱₀ (c : Thread nD τ) none) Set.univ (waitOut j) Kt) := by
  rw [outFree_add]
  unfold ctx outFly debt outFree
  iintro ⟨⟨-, #Hlev⟩, Hf, HO⟩ Hk
  unfold waitOut
  iapply (wp_waitCopy c (src := slot2 resB (par j)) (dst := cols outH j) (sem := outSem (par j)) (hsrc := (View.wordExact_bits rfl).reshape _ _) (hdst := View.wordExact_bits rfl) NO rfl
    iprop(outCol Th Wo Mi c j.val ∗ own c (slot2 resB (par j)) (outV Th Wo Mi c j.val)) (owedFrom c k) Kt) $$ [Hf HO]
  · isplitl [Hf]; · iexact Hf
    isplitl [HO]; · iexact HO
    iapply (mayWait_low c k (outSem (par j)) (by have := outSem_val (par j); omega)); iexact Hlev
  iintro ⟨⟨Hd, Hs⟩, Hv, HO⟩
  iapply Hk
  isplitl [Hd]; · iexact Hd
  isplitl [Hs Hv]
  · isplitl [Hs]; · iapply (own_held c (slot2 resB (par j)) _); iexact Hs
    iexact Hv
  iexact HO

/-- Finishing step `j`: receive, add, start the copy of the result. The slot it came in is free for step `j + 4`. -/
theorem wp_finish {defs : Defs nD τ sig (Elt F) Λ₀} (c : Dev nD) (j : Fin 16) (k : ℕ) (hk : j.val < k) (Kt : PUnit → sProp 𝕄) :
    iprop(ctx Th Wo K ∗ recvCred c j.val ∗ recvPos c j.val ∗ outMine Wo Mi c j.val ∗ outAny c j.val ∗ debt c k)
      ⊢ iprop((iprop(recvPos c (j.val + 4) ∗ recvFree c (j.val + 4) ∗ gift (peer c) j.val ∗ outFly Th Wo Mi c j.val ∗ debt c k) -∗ Kt ⟨⟩)
        -∗ wp frame (wpE defs 𝒱₀ (c : Thread nD τ) none) Set.univ (finish j) Kt) := by
  unfold outMine
  iintro ⟨#Hctx, Hc, Hp, ⟨Hm, Hv⟩, Hout, HO⟩ Hk
  unfold finish
  rw [wp_bind]
  iapply (wp_waitRecv Th Wo K c j k hk) $$ [Hc Hp HO]
  · isplitr; · iexact Hctx
    isplitl [Hc]; · iexact Hc
    isplitl [Hp]; · iexact Hp
    iexact HO
  iintro ⟨Hr, Hg, #Hre, Hp, HO⟩
  rw [wp_bind]
  iapply (wp_addRecv c j (ownV Wo Mi c j.val) (sentV Th Wo (peer c) j.val)) $$ [Hm Hr]
  · isplitl [Hm]; · iexact Hm
    iexact Hr
  iintro ⟨Hm, Hr⟩
  unfold outAny
  rw [st_val]
  unfold startOut
  iapply (wp_startCopy c (src := slot2 resB (par j)) (dst := cols outH j) (sem := outSem (par j)) NO rfl (View.dmaCredit_pos _ (by decide)) (outV Th Wo Mi c j.val) Kt) $$ [Hm Hout Hv]
  · isplitl [Hm]; · iexact Hm
    isplitl [Hout]; · iexact Hout
    iexact Hv
  iintro Hf
  iapply Hk
  isplitl [Hp]; · iexact Hp
  isplitl [Hr]
  · unfold recvFree
    rw [q4_add]
    isplitl [Hr]; · iapply (own_held c (slot4 recvB (quad j)) _); iexact Hr
    iexact Hre
  isplitl [Hg]; · iexact Hg
  isplitl [Hf]
  · unfold outFly outCol
    rw [st_val]
    iexact Hf
  iexact HO

end Cert.KernelIdeal.Run

end
-- ==== Proof.Body.lean ====
/-
  The kernel of one device, from what it starts with to what it ends with. The state between two steps is stated once, over
  the step number; one rule carries it over a step.
-/
module

public import proofs.«01_k».proof.Proof.Steps
public import Idealize.SL.BI.BigOpNat

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

/-- A family over the steps `a ≤ n < b`. -/
abbrev run (a b : ℕ) (Φ : ℕ → sProp 𝕄) : sProp 𝕄 := bigSep (Finset.Ico a b) Φ

omit [FloatOps F] in
/-- The first step of a run set apart. -/
theorem run_bot {a b : ℕ} (h : a < b) (Φ : ℕ → sProp 𝕄) : run a b Φ = iprop(Φ a ∗ run (a + 1) b Φ) := bigSep_Ico_succ_bot h Φ
omit [FloatOps F] in
/-- The last step of a run set apart. -/
theorem run_top {a b : ℕ} (h : a ≤ b) (Φ : ℕ → sProp 𝕄) : run a (b + 1) Φ = iprop(Φ b ∗ run a b Φ) := bigSep_Ico_succ_top h Φ
omit [FloatOps F] in
/-- An empty run. -/
theorem run_none {a b : ℕ} (h : b ≤ a) (Φ : ℕ → sProp 𝕄) : run a b Φ = (BI.emp : sProp 𝕄) := by
  unfold run; rw [Finset.Ico_eq_empty (by omega)]; exact bigSep_empty

variable (Th Mi : Dev nD → Vec F S2048x2048 .f32) (Wo : Dev nD → Vec F S2048x4096 .f32) (K : GSem nD τ sig → ℕ)

/-- What goes with the send of step `n`, out of the free slots: the slot for step `n + 2`, if there is such a step. -/
theorem gift_split (c : Dev nD) (n : ℕ) :
    iprop(recvFree c (n + 2) ∗ run 16 (n + 2) (recvFree c)) ⊢ (iprop(gift c n ∗ run 16 (n + 3) (recvFree c)) : sProp 𝕄) := by
  unfold gift
  by_cases h : n ≤ 13
  · rw [if_pos h, run_none (show n + 2 ≤ 16 by omega), run_none (show n + 3 ≤ 16 by omega)]
  · rw [if_neg h, run_top (show 16 ≤ n + 2 by omega)]
    iintro ⟨H1, H2⟩
    isplitr; · iempintro
    isplitl [H1] <;> iassumption

omit [FloatOps F] in
/-- With the send of step `n`, not one of the last two, goes the slot for step `n + 2`. -/
theorem gift_pos (c : Dev nD) (n : ℕ) (h : n ≤ 13) : (gift c n : sProp 𝕄) = recvFree c (n + 2) := if_pos h

/-- The product for the partner and its send, of step `j`. -/
theorem wp_stepSend {defs : Defs nD τ sig (Elt F) Λ₀} (c : Dev nD) (j : Fin 16) (Kt : PUnit → sProp 𝕄) :
    iprop(ctx Th Wo K ∗ own c theirsV (Th c) ∗ own c (slot2 woB (par j)) (colsV (Wo c) j.val) ∗ sendFree c j.val
        ∗ recvFree (peer c) j.val ∗ recvFree c (j.val + 2) ∗ run 16 (j.val + 2) (recvFree c) ∗ run j.val 16 (sendTok c) ∗ debt c j.val)
      ⊢ iprop((iprop(own c theirsV (Th c) ∗ own c (slot2 woB (par j)) (colsV (Wo c) j.val) ∗ sendOut c j.val
            ∗ run 16 (j.val + 3) (recvFree c) ∗ run (j.val + 1) 16 (sendTok c) ∗ debt c (j.val + 1)) -∗ Kt ⟨⟩)
        -∗ wp frame (wpE defs 𝒱₀ (c : Thread nD τ) none) Set.univ (stepSend c j) Kt) := by
  rw [run_bot j.isLt]
  unfold sendFree
  iintro ⟨#Hctx, HT, HW, ⟨Hs, #Hr⟩, HP, HR, HR', ⟨Ht, Hts⟩, HO⟩ Hk
  ihave HG := (gift_split c j.val) $$ [HR HR']
  · isplitl [HR] <;> iassumption
  icases HG with ⟨HG, HR⟩
  unfold stepSend
  rw [wp_bind]
  iapply (wp_product c theirsV sendB (par j) (Th c) (colsV (Wo c) j.val)) $$ [HT HW Hs]
  · isplitl [HT]; · iexact HT
    isplitl [HW]; · iexact HW
    iexact Hs
  iintro ⟨HT, HW, Hs⟩
  iapply (wp_startSend Th Wo K c j) $$ [Hs HP HG Ht HO]
  · isplitr; · iexact Hctx
    isplitl [Hs]; · iexact Hs
    isplitr; · iexact Hr
    isplitl [HP]; · iexact HP
    isplitl [HG]; · iexact HG
    isplitl [Ht]; · iexact Ht
    iexact HO
  iintro ⟨Hso, HO⟩
  iapply Hk
  isplitl [HT]; · iexact HT
  isplitl [HW]; · iexact HW
  isplitl [Hso]; · iexact Hso
  isplitl [HR]; · iexact HR
  isplitl [Hts]; · iexact Hts
  iexact HO

/-- This device's own product, of step `j`. -/
theorem wp_stepMine {defs : Defs nD τ sig (Elt F) Λ₀} (c : Dev nD) (j : Fin 16) (Kt : PUnit → sProp 𝕄) :
    iprop(own c mineV (Mi c) ∗ own c (slot2 woB (par j)) (colsV (Wo c) j.val) ∗ outFree c j.val)
      ⊢ iprop((iprop(own c mineV (Mi c) ∗ own c (slot2 woB (par j)) (colsV (Wo c) j.val) ∗ outMine Wo Mi c j.val) -∗ Kt ⟨⟩)
        -∗ wp frame (wpE defs 𝒱₀ (c : Thread nD τ) none) Set.univ (stepMine j) Kt) := by
  unfold outFree outMine
  iintro ⟨HM, HW, ⟨Ho, Hv⟩⟩ Hk
  unfold stepMine
  iapply (wp_product c mineV resB (par j) (Mi c) (colsV (Wo c) j.val)) $$ [HM HW Ho]
  · isplitl [HM]; · iexact HM
    isplitl [HW]; · iexact HW
    iexact Ho
  iintro ⟨HM, HW, Ho⟩
  iapply Hk
  isplitl [HM]; · iexact HM
  isplitl [HW]; · iexact HW
  isplitl [Ho]; · iexact Ho
  iexact Hv

/-- The weight slot of step `j`, used, is free for step `j + 2`. -/
theorem woFree_after (c : Dev nD) (j : Fin 16) :
    iprop(own c (slot2 woB (par j)) (colsV (Wo c) j.val) ∗ semVal ((c : Thread nD τ), .dma (woSem (par j))) 0) ⊢ (woFree c (j.val + 2) : sProp 𝕄) := by
  rw [woFree_add]
  unfold woFree
  iintro ⟨H, Hv⟩
  isplitl [H]; · iapply (own_held c (slot2 woB (par j)) _); iexact H
  iexact Hv

/-! ## The state between two steps -/

/-- The two row blocks. -/
def rows (c : Dev nD) : sProp 𝕄 := iprop(own c theirsV (Th c) ∗ own c mineV (Mi c))

/-- The weights before step `k`: the columns of step `k` on their way, the other slot free. -/
def weights (c : Dev nD) (k : ℕ) : sProp 𝕄 :=
  iprop(woFly Wo c k ∗ woFree c (k + 1) ∗ run (k + 1) 16 (woCol Wo c) ∗ run 0 k (woCol Wo c))

/-- The talk before step `j + 2`: two sends not waited for, step `j + 1` not received, the result of step `j` on its way. -/
def talk (c : Dev nD) (j : ℕ) : sProp 𝕄 :=
  iprop((sendPos c j ∗ sendPos c (j + 1)) ∗ (sendOut c j ∗ sendOut c (j + 1)) ∗ run (j + 2) 16 (sendTok c)
    ∗ run (j + 1) (j + 5) (recvPos c) ∗ run (j + 1) 16 (recvCred c) ∗ (recvFree c (j + 4) ∗ run 16 (j + 4) (recvFree c))
    ∗ (outFly Th Wo Mi c j ∗ outMine Wo Mi c (j + 1) ∗ run 0 j (outCol Th Wo Mi c) ∗ run (j + 1) 16 (outAny c))
    ∗ debt c (j + 2))

/-- The part of step `j + 2` after its weight columns have come. -/
def core (d : Dev nD) (j : ℕ) (h : j + 2 < 16) : P F PUnit := do
  waitSend ⟨j, by omega⟩
  stepSend d ⟨j + 2, h⟩
  waitOut ⟨j, by omega⟩
  stepMine ⟨j + 2, h⟩
  finish ⟨j + 1, by omega⟩

/-- It carries the talk on by one step. -/
theorem wp_core {defs : Defs nD τ sig (Elt F) Λ₀} (c : Dev nD) (j : ℕ) (h : j + 2 < 16) (Kt : PUnit → sProp 𝕄) :
    iprop(ctx Th Wo K ∗ rows Th Mi c ∗ own c (slot2 woB (p2 (j + 2))) (colsV (Wo c) (j + 2)) ∗ talk Th Mi Wo c j ∗ recvFree (peer c) (j + 2))
      ⊢ iprop((iprop(rows Th Mi c ∗ own c (slot2 woB (p2 (j + 2))) (colsV (Wo c) (j + 2)) ∗ talk Th Mi Wo c (j + 1) ∗ gift (peer c) (j + 1)) -∗ Kt ⟨⟩)
        -∗ wp frame (wpE defs 𝒱₀ (c : Thread nD τ) none) Set.univ (core c j h) Kt) := by
  unfold rows talk
  rw [run_bot (show j + 1 < j + 5 by omega) (recvPos c), run_bot (show j + 1 < 16 by omega) (recvCred c), run_bot (show j + 1 < 16 by omega) (outAny c)]
  iintro ⟨#Hctx, ⟨HT, HM⟩, HW, ⟨⟨Hp0, Hp1⟩, ⟨Hs0, Hs1⟩, Hts, ⟨Hq, Hqs⟩, ⟨Hc, Hcs⟩, ⟨HR, HRs⟩, ⟨Hfly, Hmine, Hdone, Hany, Htodo⟩, HO⟩, HP⟩ Hk
  have h0 : j < 16 := by omega
  have h1 : j + 1 < 16 := by omega
  unfold core
  rw [wp_bind]
  iapply (wp_waitSend Th Wo K c ⟨j, h0⟩ (j + 2)) $$ [Hs0 Hp0 HO]
  · isplitr; · iexact Hctx
    isplitl [Hs0]; · iexact Hs0
    isplitl [Hp0]; · iexact Hp0
    iexact HO
  iintro ⟨Hsf, Hp2, HO⟩
  rw [wp_bind]
  iapply (wp_stepSend Th Wo K c ⟨j + 2, h⟩) $$ [HT HW Hsf HP HR HRs Hts HO]
  · isplitr; · iexact Hctx
    isplitl [HT]; · iexact HT
    isplitl [HW]; · iexact HW
    isplitl [Hsf]; · iexact Hsf
    isplitl [HP]; · iexact HP
    isplitl [HR]; · iexact HR
    isplitl [HRs]; · iexact HRs
    isplitl [Hts]; · iexact Hts
    iexact HO
  iintro ⟨HT, HW, Hs2, HRs, Hts, HO⟩
  rw [wp_bind]
  iapply (wp_waitOut Th Wo K Mi c ⟨j, h0⟩ (j + 3)) $$ [Hfly HO]
  · isplitr; · iexact Hctx
    isplitl [Hfly]; · iexact Hfly
    iexact HO
  iintro ⟨Hcol, Hof, HO⟩
  rw [wp_bind]
  iapply (wp_stepMine Mi Wo c ⟨j + 2, h⟩) $$ [HM HW Hof]
  · isplitl [HM]; · iexact HM
    isplitl [HW]; · iexact HW
    iexact Hof
  iintro ⟨HM, HW, Hm2⟩
  iapply (wp_finish Th Wo K Mi c ⟨j + 1, h1⟩ (j + 3) (by show j + 1 < j + 3; omega)) $$ [Hc Hq Hmine Hany HO]
  · isplitr; · iexact Hctx
    isplitl [Hc]; · iexact Hc
    isplitl [Hq]; · iexact Hq
    isplitl [Hmine]; · iexact Hmine
    isplitl [Hany]; · iexact Hany
    iexact HO
  iintro ⟨Hq5, HR5, Hg, Hfly, HO⟩
  iapply Hk
  isplitl [HT HM]; · isplitl [HT] <;> iassumption
  isplitl [HW]; · iexact HW
  isplitr [Hg]
  · isplitl [Hp1 Hp2]; · isplitl [Hp1] <;> iassumption
    isplitl [Hs1 Hs2]; · isplitl [Hs1] <;> iassumption
    isplitl [Hts]; · iexact Hts
    isplitl [Hq5 Hqs]
    · rw [show j + 1 + 5 = (j + 5) + 1 by omega, run_top (show j + 1 + 1 ≤ j + 5 by omega)]
      isplitl [Hq5] <;> iassumption
    isplitl [Hcs]; · iexact Hcs
    isplitl [HR5 HRs]; · isplitl [HR5] <;> iassumption
    isplitl [Hfly Hm2 Hdone Hcol Htodo]
    · isplitl [Hfly]; · iexact Hfly
      isplitl [Hm2]; · iexact Hm2
      isplitl [Hdone Hcol]
      · rw [run_top (Nat.zero_le j)]
        isplitl [Hcol] <;> iassumption
      iexact Htodo
    iexact HO
  iexact Hg

/-- The state before step `j + 2`. -/
def state (c : Dev nD) (j : ℕ) : sProp 𝕄 :=
  iprop(rows Th Mi c ∗ weights Wo c (j + 2) ∗ talk Th Mi Wo c j ∗ recvFree (peer c) (j + 2))

/-- Step `j + 2`, not the last, carries the state on. -/
theorem wp_stepMid {defs : Defs nD τ sig (Elt F) Λ₀} (c : Dev nD) (j : Fin 16) (h : j.val + 3 < 16) (Kt : PUnit → sProp 𝕄) :
    iprop(ctx Th Wo K ∗ state Th Mi Wo c j.val)
      ⊢ iprop((state Th Mi Wo c (j.val + 1) -∗ Kt ⟨⟩)
        -∗ wp frame (wpE defs 𝒱₀ (c : Thread nD τ) none) Set.univ (stepMid c j h) Kt) := by
  have h2 : j.val + 2 < 16 := by omega
  unfold state weights
  rw [run_bot (show j.val + 2 + 1 < 16 by omega) (woCol Wo c)]
  iintro ⟨#Hctx, Hrows, ⟨Hfly, Hfree, ⟨Hcol, Hcols⟩, Hdone⟩, Htalk, HP⟩ Hk
  rw [show stepMid (F := F) c j h = (waitWo ⟨j.val + 2, by omega⟩ >>= fun _ => startWo ⟨j.val + 3, h⟩ >>= fun _ => core c j.val (by omega)) from rfl]
  unfold talk
  icases Htalk with ⟨Ht1, Ht2, Ht3, Ht4, Ht5, Ht6, Ht7, HO⟩
  rw [wp_bind]
  iapply (wp_waitWo Th Wo K c ⟨j.val + 2, h2⟩ (j.val + 2)) $$ [Hfly HO]
  · isplitr; · iexact Hctx
    isplitl [Hfly]; · iexact Hfly
    iexact HO
  iintro ⟨HW, Hcol2, Hv, HO⟩
  rw [wp_bind]
  iapply (wp_startWo Wo c ⟨j.val + 3, h⟩) $$ [Hcol Hfree]
  · isplitl [Hcol]; · iexact Hcol
    iexact Hfree
  iintro Hfly
  iapply (wp_core Th Mi Wo K c j.val h2) $$ [Hrows HW Ht1 Ht2 Ht3 Ht4 Ht5 Ht6 Ht7 HO HP]
  · isplitr; · iexact Hctx
    isplitl [Hrows]; · iexact Hrows
    isplitl [HW]; · iexact HW
    isplitr [HP]
    · unfold talk
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      iexact HO
    iexact HP
  iintro ⟨Hrows, HW, Htalk, Hg⟩
  iapply Hk
  isplitl [Hrows]; · iexact Hrows
  isplitl [Hfly HW Hv Hcols Hcol2 Hdone]
  · isplitl [Hfly]; · iexact Hfly
    isplitl [HW Hv]
    · iapply (woFree_after Wo c ⟨j.val + 2, h2⟩)
      isplitl [HW]; · iexact HW
      iexact Hv
    isplitl [Hcols]; · iexact Hcols
    rw [show j.val + 1 + 2 = (j.val + 2) + 1 by omega, run_top (Nat.zero_le (j.val + 2))]
    isplitl [Hcol2]; · iexact Hcol2
    iexact Hdone
  isplitl [Htalk]; · unfold talk; iexact Htalk
  iapply (Entails.of_eq (gift_pos (peer c) (j.val + 1) (by omega))); iexact Hg

/-! ## The first steps -/

/-- What a device has when the prologue is over. -/
def afterPrologue (c : Dev nD) : sProp 𝕄 :=
  iprop(rows Th Mi c ∗ weights Wo c 0 ∗ (sendPos c 0 ∗ sendPos c 1) ∗ (sendFree c 0 ∗ sendFree c 1) ∗ run 0 16 (sendTok c)
    ∗ run 0 4 (recvPos c) ∗ run 0 16 (recvCred c) ∗ (recvFree (peer c) 0 ∗ recvFree (peer c) 1) ∗ (recvFree c 2 ∗ recvFree c 3)
    ∗ (outFree c 0 ∗ outFree c 1) ∗ run 0 16 (outAny c) ∗ debt c 0)

/-- The weights of a first step: wait for its columns, start the next ones. -/
theorem wp_first (j : Fin 16) (h : j.val + 1 < 16) {defs : Defs nD τ sig (Elt F) Λ₀} (c : Dev nD) (k : ℕ) (p : P F PUnit) (Kt : PUnit → sProp 𝕄) :
    iprop(ctx Th Wo K ∗ weights Wo c j.val ∗ debt c k)
      ⊢ iprop((iprop(own c (slot2 woB (par j)) (colsV (Wo c) j.val) ∗ debt c k
            ∗ (own c (slot2 woB (par j)) (colsV (Wo c) j.val) -∗ weights Wo c (j.val + 1)))
          -∗ wp frame (wpE defs 𝒱₀ (c : Thread nD τ) none) Set.univ p Kt)
        -∗ wp frame (wpE defs 𝒱₀ (c : Thread nD τ) none) Set.univ (waitWo j >>= fun _ => startWo ⟨j.val + 1, h⟩ >>= fun _ => p) Kt) := by
  unfold weights
  rw [run_bot (show j.val + 1 < 16 by omega) (woCol Wo c)]
  iintro ⟨#Hctx, ⟨Hfly, Hfree, ⟨Hcol, Hcols⟩, Hdone⟩, HO⟩ Hk
  rw [wp_bind]
  iapply (wp_waitWo Th Wo K c j k) $$ [Hfly HO]
  · isplitr; · iexact Hctx
    isplitl [Hfly]; · iexact Hfly
    iexact HO
  iintro ⟨HW, Hcol2, Hv, HO⟩
  rw [wp_bind]
  iapply (wp_startWo Wo c ⟨j.val + 1, h⟩) $$ [Hcol Hfree]
  · isplitl [Hcol]; · iexact Hcol
    iexact Hfree
  iintro Hfly
  iapply Hk
  isplitl [HW]; · iexact HW
  isplitl [HO]; · iexact HO
  iintro HW
  isplitl [Hfly]; · iexact Hfly
  isplitl [HW Hv]
  · iapply (woFree_after Wo c j)
    isplitl [HW]; · iexact HW
    iexact Hv
  isplitl [Hcols]; · iexact Hcols
  rw [run_top (Nat.zero_le j.val)]
  isplitl [Hcol2]; · iexact Hcol2
  iexact Hdone

/-- Steps 0 and 1. -/
theorem wp_step01 {defs : Defs nD τ sig (Elt F) Λ₀} (c : Dev nD) (p : P F PUnit) (Kt : PUnit → sProp 𝕄) :
    iprop(ctx Th Wo K ∗ afterPrologue Th Mi Wo c)
      ⊢ iprop((state Th Mi Wo c 0 -∗ wp frame (wpE defs 𝒱₀ (c : Thread nD τ) none) Set.univ p Kt)
        -∗ wp frame (wpE defs 𝒱₀ (c : Thread nD τ) none) Set.univ (step0 c >>= fun _ => step1 c >>= fun _ => p) Kt) := by
  unfold afterPrologue rows
  rw [run_bot (show 0 < 4 by decide) (recvPos c), run_bot (show 0 < 16 by decide) (recvCred c), run_bot (show 0 < 16 by decide) (outAny c)]
  iintro ⟨#Hctx, ⟨HT, HM⟩, Hw, ⟨Hp0, Hp1⟩, ⟨Hsf0, Hsf1⟩, Hts, ⟨Hq, Hqs⟩, ⟨Hc, Hcs⟩, ⟨HP0, HP1⟩, ⟨HR2, HR3⟩, ⟨Hof0, Hof1⟩, ⟨Hany, Htodo⟩, HO⟩ Hk
  rw [show step0 (F := F) c = (waitWo 0 >>= fun _ => startWo ⟨0 + 1, by decide⟩ >>= fun _ => (stepSend c 0 >>= fun _ => stepMine 0)) from rfl, wp_bind]
  iapply (wp_first Th Wo K 0 (by decide) c 0) $$ [Hw HO]
  · isplitr; · iexact Hctx
    isplitl [Hw]; · iexact Hw
    iexact HO
  iintro ⟨HW, HO, Hw⟩
  rw [wp_bind]
  iapply (wp_stepSend Th Wo K c 0) $$ [HT HW Hsf0 HP0 HR2 Hts HO]
  · isplitr; · iexact Hctx
    isplitl [HT]; · iexact HT
    isplitl [HW]; · iexact HW
    isplitl [Hsf0]; · iexact Hsf0
    isplitl [HP0]; · iexact HP0
    isplitl [HR2]; · iexact HR2
    isplitr; · rw [run_none (by decide)]; iempintro
    isplitl [Hts]; · iexact Hts
    iexact HO
  iintro ⟨HT, HW, Hs0, -, Hts, HO⟩
  iapply (wp_stepMine Mi Wo c 0) $$ [HM HW Hof0]
  · isplitl [HM]; · iexact HM
    isplitl [HW]; · iexact HW
    iexact Hof0
  iintro ⟨HM, HW, Hm0⟩
  ihave Hw := Hw $$ HW
  rw [show step1 (F := F) c = (waitWo 1 >>= fun _ => startWo ⟨1 + 1, by decide⟩ >>= fun _ => (stepSend c 1 >>= fun _ => stepMine 1 >>= fun _ => finish 0)) from rfl, wp_bind]
  iapply (wp_first Th Wo K 1 (by decide) c 1) $$ [Hw HO]
  · isplitr; · iexact Hctx
    isplitl [Hw]; · iexact Hw
    iexact HO
  iintro ⟨HW, HO, Hw⟩
  rw [wp_bind]
  iapply (wp_stepSend Th Wo K c 1) $$ [HT HW Hsf1 HP1 HR3 Hts HO]
  · isplitr; · iexact Hctx
    isplitl [HT]; · iexact HT
    isplitl [HW]; · iexact HW
    isplitl [Hsf1]; · iexact Hsf1
    isplitl [HP1]; · iexact HP1
    isplitl [HR3]; · iexact HR3
    isplitr; · rw [run_none (by decide)]; iempintro
    isplitl [Hts]; · iexact Hts
    iexact HO
  iintro ⟨HT, HW, Hs1, -, Hts, HO⟩
  rw [wp_bind]
  iapply (wp_stepMine Mi Wo c 1) $$ [HM HW Hof1]
  · isplitl [HM]; · iexact HM
    isplitl [HW]; · iexact HW
    iexact Hof1
  iintro ⟨HM, HW, Hm1⟩
  ihave Hw := Hw $$ HW
  iapply (wp_finish Th Wo K Mi c 0 2 (by decide)) $$ [Hc Hq Hm0 Hany HO]
  · isplitr; · iexact Hctx
    isplitl [Hc]; · iexact Hc
    isplitl [Hq]; · iexact Hq
    isplitl [Hm0]; · iexact Hm0
    isplitl [Hany]; · iexact Hany
    iexact HO
  iintro ⟨Hq4, HR4, Hg, Hfly, HO⟩
  iapply Hk
  unfold state rows talk
  isplitl [HT HM]; · isplitl [HT] <;> iassumption
  isplitl [Hw]; · iexact Hw
  isplitr [Hg]
  · isplitl [Hp0 Hp1]
    · isplitl [Hp0]; · iexact Hp0
      iexact Hp1
    isplitl [Hs0 Hs1]
    · isplitl [Hs0]; · iexact Hs0
      iexact Hs1
    isplitl [Hts]; · iexact Hts
    isplitl [Hq4 Hqs]
    · rw [show 0 + 5 = 4 + 1 from rfl, run_top (show 0 + 1 ≤ 4 by decide)]
      isplitl [Hq4]; · iexact Hq4
      iexact Hqs
    isplitl [Hcs]; · iexact Hcs
    isplitl [HR4]
    · isplitl [HR4]; · iexact HR4
      rw [run_none (by decide)]; iempintro
    isplitl [Hfly Hm1 Htodo]
    · isplitl [Hfly]; · iexact Hfly
      isplitl [Hm1]; · iexact Hm1
      isplitr; · rw [run_none (by decide)]; iempintro
      iexact Htodo
    iexact HO
  iapply (Entails.of_eq (gift_pos (peer c) 0 (by decide))); iexact Hg

/-! ## The last step and the epilogue -/

/-- What a device has at the end of its kernel. -/
def atEnd (c : Dev nD) : sProp 𝕄 :=
  iprop(rows Th Mi c ∗ (woFree c 16 ∗ woFree c 17) ∗ run 0 16 (woCol Wo c) ∗ (sendPos c 16 ∗ sendPos c 17) ∗ (sendFree c 16 ∗ sendFree c 17)
    ∗ run 16 20 (recvPos c) ∗ run 16 20 (recvFree c) ∗ (outFree c 16 ∗ outFree c 17) ∗ run 0 16 (outCol Th Wo Mi c) ∗ debt c 16)

/-- The last step and the epilogue. -/
theorem wp_last {defs : Defs nD τ sig (Elt F) Λ₀} (c : Dev nD) (Kt : PUnit → sProp 𝕄) :
    iprop(ctx Th Wo K ∗ state Th Mi Wo c 13)
      ⊢ iprop((atEnd Th Mi Wo c -∗ Kt ⟨⟩)
        -∗ wp frame (wpE defs 𝒱₀ (c : Thread nD τ) none) Set.univ (step15 c >>= fun _ => epilogue) Kt) := by
  unfold state weights
  iintro ⟨#Hctx, Hrows, ⟨Hfly, Hfree, -, Hdone⟩, Htalk, HP⟩ Hk
  rw [show step15 (F := F) c = (waitWo 15 >>= fun _ => core c 13 (by decide)) from rfl, wp_bind, wp_bind]
  unfold talk
  icases Htalk with ⟨Ht1, Ht2, Ht3, Ht4, Ht5, Ht6, Ht7, HO⟩
  iapply (wp_waitWo Th Wo K c 15 15) $$ [Hfly HO]
  · isplitr; · iexact Hctx
    isplitl [Hfly]; · iexact Hfly
    iexact HO
  iintro ⟨HW, Hcol2, Hv, HO⟩
  iapply (wp_core Th Mi Wo K c 13 _) $$ [Hrows HW Ht1 Ht2 Ht3 Ht4 Ht5 Ht6 Ht7 HO HP]
  · isplitr; · iexact Hctx
    isplitl [Hrows]; · iexact Hrows
    isplitl [HW]; · iexact HW
    isplitr [HP]
    · unfold talk
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      iexact HO
    iexact HP
  iintro ⟨Hrows, HW, Htalk, -⟩
  unfold talk
  rw [run_bot (show 13 + 1 + 1 < 13 + 1 + 5 by decide) (recvPos c), run_bot (show 13 + 1 + 1 < 16 by decide) (recvCred c), run_bot (show 13 + 1 + 1 < 16 by decide) (outAny c)]
  icases Htalk with ⟨⟨Hp0, Hp1⟩, ⟨Hs0, Hs1⟩, -, ⟨Hq, Hqs⟩, ⟨Hc, -⟩, ⟨HR, HRs⟩, ⟨Hfly, Hmine, Hcols, Hany, -⟩, HO⟩
  unfold epilogue
  rw [wp_bind]
  iapply (wp_finish Th Wo K Mi c 15 16 (by decide)) $$ [Hc Hq Hmine Hany HO]
  · isplitr; · iexact Hctx
    isplitl [Hc]; · iexact Hc
    isplitl [Hq]; · iexact Hq
    isplitl [Hmine]; · iexact Hmine
    isplitl [Hany]; · iexact Hany
    iexact HO
  iintro ⟨Hq19, HR19, -, Hfly15, HO⟩
  rw [wp_bind]
  iapply (wp_waitSend Th Wo K c 14 16) $$ [Hs0 Hp0 HO]
  · isplitr; · iexact Hctx
    isplitl [Hs0]; · iexact Hs0
    isplitl [Hp0]; · iexact Hp0
    iexact HO
  iintro ⟨Hsf16, Hp16, HO⟩
  rw [wp_bind]
  iapply (wp_waitSend Th Wo K c 15 16) $$ [Hs1 Hp1 HO]
  · isplitr; · iexact Hctx
    isplitl [Hs1]; · iexact Hs1
    isplitl [Hp1]; · iexact Hp1
    iexact HO
  iintro ⟨Hsf17, Hp17, HO⟩
  rw [wp_bind]
  iapply (wp_waitOut Th Wo K Mi c 14 16) $$ [Hfly HO]
  · isplitr; · iexact Hctx
    isplitl [Hfly]; · iexact Hfly
    iexact HO
  iintro ⟨Hcol14, Hof16, HO⟩
  iapply (wp_waitOut Th Wo K Mi c 15 16) $$ [Hfly15 HO]
  · isplitr; · iexact Hctx
    isplitl [Hfly15]; · iexact Hfly15
    iexact HO
  iintro ⟨Hcol15, Hof17, HO⟩
  iapply Hk
  unfold atEnd
  isplitl [Hrows]; · iexact Hrows
  isplitl [Hfree HW Hv]
  · isplitl [Hfree]; · iexact Hfree
    iapply (woFree_after Wo c 15)
    isplitl [HW]; · iexact HW
    iexact Hv
  isplitl [Hcol2 Hdone]
  · rw [run_top (show 0 ≤ 15 by decide)]
    isplitl [Hcol2]; · iexact Hcol2
    iexact Hdone
  isplitl [Hp16 Hp17]; · isplitl [Hp16]; · iexact Hp16
                         iexact Hp17
  isplitl [Hsf16 Hsf17]; · isplitl [Hsf16]; · iexact Hsf16
                           iexact Hsf17
  isplitl [Hq19 Hqs]
  · rw [run_top (show 16 ≤ 19 by decide)]
    isplitl [Hq19]; · iexact Hq19
    iexact Hqs
  isplitl [HR19 HR HRs]
  · rw [run_top (show 16 ≤ 19 by decide), run_top (show 16 ≤ 18 by decide)]
    isplitl [HR19]; · iexact HR19
    isplitl [HR]; · iexact HR
    iexact HRs
  isplitl [Hof16 Hof17]; · isplitl [Hof16]; · iexact Hof16
                           iexact Hof17
  isplitl [Hcol15 Hcol14 Hcols]
  · rw [run_top (show 0 ≤ 15 by decide), run_top (show 0 ≤ 14 by decide)]
    isplitl [Hcol15]; · iexact Hcol15
    isplitl [Hcol14]; · iexact Hcol14
    iexact Hcols
  iexact HO

/-! ## The prologue -/

/-- A block of rows to be copied in: at home at a value, its place in VMEM, its semaphore at zero. -/
def rowsIn (c : Dev nD) (src : Memref sig .tc .hbm S2048x2048 .f32) (dst : Memref sig .tc .vmem S2048x2048 .f32) (s : Fin 2) (x : Vec F S2048x2048 .f32) : sProp 𝕄 :=
  iprop(own c src x ∗ held c dst ∗ semVal ((c : Thread nD τ), .dma (inSem s)) 0)
/-- The barrier of device `c`: what it signals with and what it waits with. -/
def barIn (c : Dev nD) : sProp 𝕄 :=
  iprop(reached ER (barCell (peer c)) 0 ∗ dutyTok ER (barCell (peer c)) 0 () ∗ atPos ER (barCell c) 0 ∅ 0 ∗ cred (tallyAt (barCell c) 0 1))

/-- What a device starts its kernel with. -/
def atStart (c : Dev nD) : sProp 𝕄 :=
  iprop((rowsIn c theirsH theirsV 0 (Th c) ∗ rowsIn c mineH mineV 1 (Mi c)) ∗ (woFree c 0 ∗ woFree c 1) ∗ run 0 16 (woCol Wo c) ∗ barIn c
    ∗ (sendPos c 0 ∗ sendPos c 1) ∗ (sendFree c 0 ∗ sendFree c 1) ∗ run 0 16 (sendTok c)
    ∗ run 0 4 (recvPos c) ∗ run 0 16 (recvCred c) ∗ (recvFree c 0 ∗ recvFree c 1 ∗ recvFree c 2 ∗ recvFree c 3)
    ∗ (outFree c 0 ∗ outFree c 1) ∗ run 0 16 (outAny c) ∗ ∃ W, owes (c : Thread nD τ) (O₀ c) W)

/-- What is left beside the steps: the blocks of rows at home, their semaphores at zero, the barrier's cell after its round. -/
def aside (c : Dev nD) : sProp 𝕄 :=
  iprop((own c theirsH (Th c) ∗ semVal ((c : Thread nD τ), .dma (inSem 0)) 0) ∗ (own c mineH (Mi c) ∗ semVal ((c : Thread nD τ), .dma (inSem 1)) 0)
    ∗ atPos ER (barCell c) 1 ∅ 0)

/-- What a copy of a block of rows counts for. -/
abbrev NR : ℕ := theirsV.view.dmaCredit

/-- The meeting with the partner: the partner gets this device's first two slots, this device the partner's. -/
theorem wp_meet {defs : Defs nD τ sig (Elt F) Λ₀} (c : Dev nD) (p : P F (Dev nD)) (Kt : Dev nD → sProp 𝕄) :
    iprop(ctx Th Wo K ∗ barIn c ∗ (recvFree c 0 ∗ recvFree c 1) ∗ ∃ W, owes (c : Thread nD τ) (O₀ c) W)
      ⊢ iprop((iprop((recvFree (peer c) 0 ∗ recvFree (peer c) 1) ∗ atPos ER (barCell c) 1 ∅ 0 ∗ debt c 0)
          -∗ wp frame (wpE defs 𝒱₀ (c : Thread nD τ) none) Set.univ p Kt)
        -∗ wp frame (wpE defs 𝒱₀ (c : Thread nD τ) none) Set.univ (semSignalWord (peer c) barSem 1#32 >>= fun _ => semWaitWord barSem 1#32 >>= fun _ => p) Kt) := by
  unfold ctx barIn
  iintro ⟨⟨#HI, #Hlev⟩, ⟨#Hr, Ht, Hp, Hc⟩, Hf, ⟨%W, HO⟩⟩ Hk
  simp only [semSignalWord, semWaitWord, Prog.bind_op, Prog.bind_ret]
  rw [show (1#32 : BitVec 32).toInt = ((1 : ℕ) : ℤ) from rfl]
  iapply (Rounds.wp_signal 𝒱₀ ER (rd Th Wo) (c : Thread nD τ) none (dst := (peer c : Thread nD τ)) (sem := barSem) (r := 0) (d := ()) (κ := K (barCell (peer c)))
      (by rw [duties_bar]; exact Finset.mem_singleton_self _) rfl 0 (owedFrom c 0) rfl (W := W)) $$ [HO Ht Hf]
  · isplitr; · iapply (inv_at Th Wo K (bar_mem (peer c))); iexact HI
    isplitl [HO]; · iexact HO
    isplitl [Ht]; · iexact Ht
    isplitl [Hf]
    · rw [payload_bar]; unfold barPay; rw [peer_peer]
      iexact Hf
    iexact Hr
  iintro HO
  iapply (Rounds.wp_wait_rest_token 𝒱₀ ER (rd Th Wo) (c : Thread nD τ) none (κ := K (barCell c))
      (wpE_semWait_eq 𝒱₀ (c : Thread nD τ) none Set.univ) (Set.mem_univ _) 0 (O := owedFrom c 0) (W := W) (R := 0) (m := 0) (T := ∅)
      ((Nat.zero_add 1).trans (expect_bar Th Wo c).symm)) $$ [Hc HO Hp]
  · isplitr; · iapply (inv_at Th Wo K (bar_mem c)); iexact HI
    isplitl [Hc]; · iexact Hc
    isplitl [HO]; · iexact HO
    isplitr; · iapply (mayWait_bar c 0); iexact Hlev
    iexact Hp
  iintro ⟨HO, Hp, -, Hpay⟩
  ihave Hf := (Entails.of_eq ((rest_bar Th Wo c).trans (show _ = (iprop(recvFree (peer c) 0 ∗ recvFree (peer c) 1) : sProp 𝕄) from rfl))) $$ Hpay
  iapply Hk
  isplitl [Hf]; · iexact Hf
  isplitl [Hp]; · iexact Hp
  unfold debt
  iexists _; iexact HO

/-- The prologue. -/
theorem wp_prologue {defs : Defs nD τ sig (Elt F) Λ₀} (c : Dev nD) (Kt : Dev nD → sProp 𝕄) :
    iprop(ctx Th Wo K ∗ atStart Th Mi Wo c)
      ⊢ iprop((iprop(afterPrologue Th Mi Wo c ∗ aside Th Mi c) -∗ Kt c)
        -∗ wp frame (wpE defs 𝒱₀ (c : Thread nD τ) none) Set.univ prologue Kt) := by
  unfold atStart rowsIn
  rw [run_bot (show 0 < 16 by decide) (woCol Wo c)]
  iintro ⟨#Hctx, ⟨HTin, HMin⟩, ⟨Hw0, Hw1⟩, ⟨Hcol, Hcols⟩, Hbar, Hpos, Hsf, Hts, Hqs, Hcs, ⟨HR0, HR1, HR2, HR3⟩, Hof, Hany, HO⟩ Hk
  unfold prologue
  rw [show (Prog.lift TpuEff.deviceId >>= fun d : Dev nD => (do
      Prog.lift (.enqueueDma theirsH (.here theirsV) (.dma (inSem 0)) (Memref.isWhole_whole _).wordExact (Memref.isWhole_whole _).wordExact ⟨Or.inl rfl, trivial⟩)
      Prog.lift (.enqueueDma mineH (.here mineV) (.dma (inSem 1)) (Memref.isWhole_whole _).wordExact (Memref.isWhole_whole _).wordExact ⟨Or.inl rfl, trivial⟩)
      startWo 0
      semSignalWord (peer d) barSem 1#32
      semWaitWord barSem 1#32
      Prog.lift (.waitDma2 (inSem 0) theirsH theirsV (Memref.isWhole_whole _).wordExact (Memref.isWhole_whole _).wordExact)
      Prog.lift (.waitDma2 (inSem 1) mineH mineV (Memref.isWhole_whole _).wordExact (Memref.isWhole_whole _).wordExact)
      pure d : P F (Dev nD))) = Prog.op TpuEff.deviceId (fun d : Dev nD => (do
      Prog.lift (.enqueueDma theirsH (.here theirsV) (.dma (inSem 0)) (Memref.isWhole_whole _).wordExact (Memref.isWhole_whole _).wordExact ⟨Or.inl rfl, trivial⟩)
      Prog.lift (.enqueueDma mineH (.here mineV) (.dma (inSem 1)) (Memref.isWhole_whole _).wordExact (Memref.isWhole_whole _).wordExact ⟨Or.inl rfl, trivial⟩)
      startWo 0
      semSignalWord (peer d) barSem 1#32
      semWaitWord barSem 1#32
      Prog.lift (.waitDma2 (inSem 0) theirsH theirsV (Memref.isWhole_whole _).wordExact (Memref.isWhole_whole _).wordExact)
      Prog.lift (.waitDma2 (inSem 1) mineH mineV (Memref.isWhole_whole _).wordExact (Memref.isWhole_whole _).wordExact)
      pure d : P F (Dev nD))) from rfl, wp_deviceId, wp_bind]
  iapply (wp_startCopy c (src := theirsH) (dst := theirsV) (sem := inSem 0) NR rfl (View.dmaCredit_pos _ (by decide)) (Th c)) $$ HTin
  iintro HfT
  rw [wp_bind]
  iapply (wp_startCopy c (src := mineH) (dst := mineV) (sem := inSem 1) NR rfl (View.dmaCredit_pos _ (by decide)) (Mi c)) $$ HMin
  iintro HfM
  rw [wp_bind]
  iapply (wp_startWo Wo c 0) $$ [Hcol Hw0]
  · isplitl [Hcol]; · iexact Hcol
    iexact Hw0
  iintro Hfly
  iapply (wp_meet Th Wo K c) $$ [Hbar HR0 HR1 HO]
  · isplitr; · iexact Hctx
    isplitl [Hbar]; · iexact Hbar
    isplitl [HR0 HR1]; · isplitl [HR0] <;> iassumption
    iexact HO
  iintro ⟨HP, Hb, HO⟩
  rw [wp_bind]
  unfold ctx debt
  icases Hctx with ⟨#HI, #Hlev⟩
  iapply (wp_waitCopy c (src := theirsH) (dst := theirsV) (sem := inSem 0) (hsrc := (Memref.isWhole_whole _).wordExact) (hdst := (Memref.isWhole_whole _).wordExact) NR rfl iprop(own c theirsV (Th c) ∗ own c theirsH (Th c)) (owedFrom c 0)) $$ [HfT HO]
  · isplitl [HfT]; · iexact HfT
    isplitl [HO]; · iexact HO
    iapply (mayWait_low c 0 (inSem 0) (by decide)); iexact Hlev
  iintro ⟨⟨HT, HTh⟩, Hv0, HO⟩
  rw [wp_bind]
  iapply (wp_waitCopy c (src := mineH) (dst := mineV) (sem := inSem 1) (hsrc := (Memref.isWhole_whole _).wordExact) (hdst := (Memref.isWhole_whole _).wordExact) NR rfl iprop(own c mineV (Mi c) ∗ own c mineH (Mi c)) (owedFrom c 0)) $$ [HfM HO]
  · isplitl [HfM]; · iexact HfM
    isplitl [HO]; · iexact HO
    iapply (mayWait_low c 0 (inSem 1) (by decide)); iexact Hlev
  iintro ⟨⟨HM, HMh⟩, Hv1, HO⟩
  rw [show (pure c : P F (Dev nD)) = Prog.ret c from rfl, wp_ret]
  imodintro
  iapply Hk
  isplitr [HTh Hv0 HMh Hv1 Hb]
  · unfold afterPrologue rows weights debt
    isplitl [HT HM]; · isplitl [HT] <;> iassumption
    isplitl [Hfly Hw1 Hcols]
    · isplitl [Hfly]; · iexact Hfly
      isplitl [Hw1]; · iexact Hw1
      isplitl [Hcols]; · iexact Hcols
      rw [run_none (le_refl 0)]; iempintro
    isplitl [Hpos]; · iexact Hpos
    isplitl [Hsf]; · iexact Hsf
    isplitl [Hts]; · iexact Hts
    isplitl [Hqs]; · iexact Hqs
    isplitl [Hcs]; · iexact Hcs
    isplitl [HP]; · iexact HP
    isplitl [HR2 HR3]; · isplitl [HR2] <;> iassumption
    isplitl [Hof]; · iexact Hof
    isplitl [Hany]; · iexact Hany
    iexact HO
  unfold aside
  isplitl [HTh Hv0]; · isplitl [HTh] <;> iassumption
  isplitl [HMh Hv1]; · isplitl [HMh] <;> iassumption
  iexact Hb

/-! ## The kernel -/

/-- The kernel of one device. -/
theorem wp_kernel {defs : Defs nD τ sig (Elt F) Λ₀} (c : Dev nD) (Kt : PUnit → sProp 𝕄) :
    iprop(ctx Th Wo K ∗ atStart Th Mi Wo c)
      ⊢ iprop((iprop(atEnd Th Mi Wo c ∗ aside Th Mi c) -∗ Kt ⟨⟩)
        -∗ wp frame (wpE defs 𝒱₀ (c : Thread nD τ) none) Set.univ kernel Kt) := by
  iintro ⟨#Hctx, Hs⟩ Hk
  unfold kernel
  rw [wp_bind]
  iapply (wp_prologue Th Mi Wo K c) $$ [Hs]
  · isplitr; · iexact Hctx
    iexact Hs
  iintro ⟨Hs, Ha⟩
  iapply (wp_step01 Th Mi Wo K c) $$ [Hs]
  · isplitr; · iexact Hctx
    iexact Hs
  iintro Hs
  rw [wp_bind]
  iapply (wp_stepMid Th Mi Wo K c 0 _) $$ [Hs]
  · isplitr; · iexact Hctx
    iexact Hs
  iintro Hs
  rw [wp_bind]
  iapply (wp_stepMid Th Mi Wo K c 1 _) $$ [Hs]
  · isplitr; · iexact Hctx
    iexact Hs
  iintro Hs
  rw [wp_bind]
  iapply (wp_stepMid Th Mi Wo K c 2 _) $$ [Hs]
  · isplitr; · iexact Hctx
    iexact Hs
  iintro Hs
  rw [wp_bind]
  iapply (wp_stepMid Th Mi Wo K c 3 _) $$ [Hs]
  · isplitr; · iexact Hctx
    iexact Hs
  iintro Hs
  rw [wp_bind]
  iapply (wp_stepMid Th Mi Wo K c 4 _) $$ [Hs]
  · isplitr; · iexact Hctx
    iexact Hs
  iintro Hs
  rw [wp_bind]
  iapply (wp_stepMid Th Mi Wo K c 5 _) $$ [Hs]
  · isplitr; · iexact Hctx
    iexact Hs
  iintro Hs
  rw [wp_bind]
  iapply (wp_stepMid Th Mi Wo K c 6 _) $$ [Hs]
  · isplitr; · iexact Hctx
    iexact Hs
  iintro Hs
  rw [wp_bind]
  iapply (wp_stepMid Th Mi Wo K c 7 _) $$ [Hs]
  · isplitr; · iexact Hctx
    iexact Hs
  iintro Hs
  rw [wp_bind]
  iapply (wp_stepMid Th Mi Wo K c 8 _) $$ [Hs]
  · isplitr; · iexact Hctx
    iexact Hs
  iintro Hs
  rw [wp_bind]
  iapply (wp_stepMid Th Mi Wo K c 9 _) $$ [Hs]
  · isplitr; · iexact Hctx
    iexact Hs
  iintro Hs
  rw [wp_bind]
  iapply (wp_stepMid Th Mi Wo K c 10 _) $$ [Hs]
  · isplitr; · iexact Hctx
    iexact Hs
  iintro Hs
  rw [wp_bind]
  iapply (wp_stepMid Th Mi Wo K c 11 _) $$ [Hs]
  · isplitr; · iexact Hctx
    iexact Hs
  iintro Hs
  rw [wp_bind]
  iapply (wp_stepMid Th Mi Wo K c 12 _) $$ [Hs]
  · isplitr; · iexact Hctx
    iexact Hs
  iintro Hs
  iapply (wp_last Th Mi Wo K c) $$ [Hs]
  · isplitr; · iexact Hctx
    iexact Hs
  iintro Hs
  iapply Hk
  isplitl [Hs]; · iexact Hs
  iexact Ha

end Cert.KernelIdeal.Run

end
-- ==== Proof.Parts.lean ====
/-
  Taking buffers apart and putting them together: a two-slot buffer is its two slots, the four-slot buffer its four, and a
  wide array its sixteen bands of columns.
-/
module

public import proofs.«01_k».proof.Proof.Body

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

/-! ## Pieces of a set of elements -/

omit [FloatOps F] in
/-- A set of elements held at one valuation is its pieces held at it. -/
theorem cut {ℓ : Loc nD τ sig} (K : ℕ → Finset (Idx ℓ)) (k : ℕ) (S : Finset (Idx ℓ))
    (hd : ∀ i ∈ Finset.Ico 0 k, ∀ j ∈ Finset.Ico 0 k, i ≠ j → Disjoint (K i) (K j)) (hc : (Finset.Ico 0 k).biUnion K = S) (f : Buf (Elt F) ℓ) :
    (ℓ ↦[S]{fullShare} f : sProp 𝕄) ⊢ run 0 k fun n => (ℓ ↦[K n]{fullShare} f) := by
  rw [← hc]
  exact Entails.of_eq (pointsTo_biUnion _ K hd)

omit [FloatOps F] in
/-- Pieces held at valuations of their own make their union, at a valuation that agrees with each. -/
theorem glue {ℓ : Loc nD τ sig} [Nonempty (Buf (Elt F) ℓ)] (K : ℕ → Finset (Idx ℓ)) (k : ℕ) (S : Finset (Idx ℓ))
    (hd : ∀ i ∈ Finset.Ico 0 k, ∀ j ∈ Finset.Ico 0 k, i ≠ j → Disjoint (K i) (K j)) (hc : (Finset.Ico 0 k).biUnion K = S)
    (P : ℕ → Buf (Elt F) ℓ → Prop) :
    run 0 k (fun n => (iprop(∃ f : Buf (Elt F) ℓ, ⌜P n f⌝ ∗ (ℓ ↦[K n]{fullShare} f)) : sProp 𝕄))
      ⊢ iprop(∃ g : Buf (Elt F) ℓ, ⌜∀ n ∈ Finset.Ico 0 k, ∃ f, P n f ∧ ∀ i ∈ K n, g i = f i⌝ ∗ (ℓ ↦[S]{fullShare} g)) := by
  subst hc
  iintro H
  ihave H := (bigSep_exists_pi (Finset.Ico 0 k) fun n f => (iprop(⌜P n f⌝ ∗ (ℓ ↦[K n]{fullShare} f)) : sProp 𝕄)) $$ H
  icases H with ⟨%fs, H⟩
  ihave H := (bigSep_pure_sep (Finset.Ico 0 k) (fun n => P n (fs n)) fun n => (ℓ ↦[K n]{fullShare} fs n : sProp 𝕄)) $$ H
  icases H with ⟨%hP, H⟩
  ihave H := (pointsTo_biUnion_join (Finset.Ico 0 k) K fs (Classical.choice inferInstance) hd) $$ H
  icases H with ⟨%g, %hg, H⟩
  iexists g
  isplitr
  · ipureintro
    exact fun n hn => ⟨fs n, hP n hn, hg n hn⟩
  iexact H

/-- Disjoint rectangles of a view have disjoint elements. -/
theorem slices_disjoint {κ : Kind} {sp : Space} {s : Shape} {e : EltTy} (v : View sig κ sp s e) (R R' : Rect s) (h : Disjoint R.set R'.set) :
    Disjoint (v.slice R).set (v.slice R').set := by
  rw [View.set_slice, View.set_slice]
  exact (Finset.disjoint_map _).mpr h

/-- Rectangles that cover a view's indices cover its elements. -/
theorem slices_cover {κ : Kind} {sp : Space} {s : Shape} {e : EltTy} (v : View sig κ sp s e) (R : ℕ → Rect s) (k : ℕ)
    (h : ∀ x : s.Idx, ∃ n ∈ Finset.Ico 0 k, x ∈ (R n).set) :
    (Finset.Ico 0 k).biUnion (fun n => (v.slice (R n)).set) = v.set := by
  ext i
  simp only [Finset.mem_biUnion]
  constructor
  · rintro ⟨n, -, hn⟩
    exact View.set_slice_subset v (R n) hn
  · intro hi
    obtain ⟨x, -, rfl⟩ := Finset.mem_map.mp hi
    obtain ⟨n, hn, hx⟩ := h x
    refine ⟨n, hn, ?_⟩
    rw [View.set_slice]
    exact Finset.mem_map_of_mem _ hx

/-! ## Slots -/

/-- An index of a two-slot buffer is in the slot its first coordinate names. -/
theorem mem_slotRect (s : Fin 2) (x : S2x2048x256.Idx) : x ∈ (slotRect s).set ↔ (x (0 : Fin 3)).val = s.val := by
  rw [Rect.mem_set_unit]
  have h1 : (x (1 : Fin 3)).val < 2048 := (x (1 : Fin 3)).isLt
  have h2 : (x (2 : Fin 3)).val < 256 := (x (2 : Fin 3)).isLt
  constructor
  · intro h
    have h0 := h (0 : Fin 3)
    have e : S1x2048x256.size (0 : Fin 3) = 1 := rfl
    simp at h0
    omega
  · intro h a
    fin_cases a
    · show s.val ≤ (x (0 : Fin 3)).val ∧ (x (0 : Fin 3)).val < s.val + 1; omega
    · show 0 ≤ (x (1 : Fin 3)).val ∧ (x (1 : Fin 3)).val < 0 + 2048; omega
    · show 0 ≤ (x (2 : Fin 3)).val ∧ (x (2 : Fin 3)).val < 0 + 256; omega

/-- The same for the four-slot buffer. -/
theorem mem_slotRect4 (s : Fin 4) (x : S4x2048x256.Idx) : x ∈ (slotRect4 s).set ↔ (x (0 : Fin 3)).val = s.val := by
  rw [Rect.mem_set_unit]
  have h1 : (x (1 : Fin 3)).val < 2048 := (x (1 : Fin 3)).isLt
  have h2 : (x (2 : Fin 3)).val < 256 := (x (2 : Fin 3)).isLt
  constructor
  · intro h
    have h0 := h (0 : Fin 3)
    simp at h0
    omega
  · intro h a
    fin_cases a
    · show s.val ≤ (x (0 : Fin 3)).val ∧ (x (0 : Fin 3)).val < s.val + 1; omega
    · show 0 ≤ (x (1 : Fin 3)).val ∧ (x (1 : Fin 3)).val < 0 + 2048; omega
    · show 0 ≤ (x (2 : Fin 3)).val ∧ (x (2 : Fin 3)).val < 0 + 256; omega

/-- The elements of the slot of step `n`, as elements of the buffer. -/
def set2 (c : Dev nD) (B : Memref sig .tc .vmem S2x2048x256 .f32) (n : ℕ) : Finset (Idx (B.view.loc (c : Thread nD τ))) :=
  (slot2 B (p2 n)).view.set

/-- The two slots are disjoint, and all of the buffer. -/
theorem slots2 (c : Dev nD) (B : Memref sig .tc .vmem S2x2048x256 .f32) :
    (∀ i ∈ Finset.Ico 0 2, ∀ j ∈ Finset.Ico 0 2, i ≠ j → Disjoint (set2 c B i) (set2 c B j))
      ∧ (Finset.Ico 0 2).biUnion (set2 c B) = B.view.set := by
  constructor
  · intro i hi j hj hij
    rw [Finset.mem_Ico] at hi hj
    show Disjoint (slot2 B (p2 i)).view.set (slot2 B (p2 j)).view.set
    rw [slot2_set, slot2_set]
    refine slices_disjoint B.view _ _ (Finset.disjoint_left.mpr fun x h1 h2 => ?_)
    rw [mem_slotRect] at h1 h2
    have e1 : (p2 i).val = i % 2 := rfl
    have e2 : (p2 j).val = j % 2 := rfl
    omega
  · rw [← slices_cover B.view (fun n => slotRect (p2 n)) 2 fun x => ?_]
    · exact Finset.biUnion_congr rfl fun n _ => slot2_set B (p2 n)
    · have h : (x (0 : Fin 3)).val < 2 := (x (0 : Fin 3)).isLt
      refine ⟨(x (0 : Fin 3)).val, Finset.mem_Ico.mpr ⟨Nat.zero_le _, h⟩, (mem_slotRect _ _).mpr ?_⟩
      show _ = (x (0 : Fin 3)).val % 2
      omega

/-- The elements of the slot of step `n`, as elements of the buffer. -/
def set4 (c : Dev nD) (B : Memref sig .tc .vmem S4x2048x256 .f32) (n : ℕ) : Finset (Idx (B.view.loc (c : Thread nD τ))) :=
  (slot4 B (q4 n)).view.set

/-- The four slots are disjoint, and all of the buffer. -/
theorem slots4 (c : Dev nD) (B : Memref sig .tc .vmem S4x2048x256 .f32) :
    (∀ i ∈ Finset.Ico 0 4, ∀ j ∈ Finset.Ico 0 4, i ≠ j → Disjoint (set4 c B i) (set4 c B j))
      ∧ (Finset.Ico 0 4).biUnion (set4 c B) = B.view.set := by
  constructor
  · intro i hi j hj hij
    rw [Finset.mem_Ico] at hi hj
    show Disjoint (slot4 B (q4 i)).view.set (slot4 B (q4 j)).view.set
    rw [slot4_set, slot4_set]
    refine slices_disjoint B.view _ _ (Finset.disjoint_left.mpr fun x h1 h2 => ?_)
    rw [mem_slotRect4] at h1 h2
    have e1 : (q4 i).val = i % 4 := rfl
    have e2 : (q4 j).val = j % 4 := rfl
    omega
  · rw [← slices_cover B.view (fun n => slotRect4 (q4 n)) 4 fun x => ?_]
    · exact Finset.biUnion_congr rfl fun n _ => slot4_set B (q4 n)
    · have h : (x (0 : Fin 3)).val < 4 := (x (0 : Fin 3)).isLt
      refine ⟨(x (0 : Fin 3)).val, Finset.mem_Ico.mpr ⟨Nat.zero_le _, h⟩, (mem_slotRect4 _ _).mpr ?_⟩
      show _ = (x (0 : Fin 3)).val % 4
      omega

omit [FloatOps F] in
/-- A run of two. -/
theorem run_two (Φ : ℕ → sProp 𝕄) : run 0 2 Φ = iprop(Φ 0 ∗ Φ 1) := by
  rw [run_bot (by decide), show (run (0 + 1) 2 Φ : sProp 𝕄) = Φ 1 from by
    show bigSep (Finset.Ico 1 2) Φ = Φ 1
    rw [show Finset.Ico 1 2 = {1} from by decide, bigSep_singleton]]

omit [FloatOps F] in
/-- A slot held at a valuation of the buffer is held. -/
theorem slot2_held (c : Dev nD) (B : Memref sig .tc .vmem S2x2048x256 .f32) (n : ℕ) (f : Buf (Elt F) (B.view.loc (c : Thread nD τ))) :
    (B.view.loc (c : Thread nD τ) ↦[set2 c B n]{fullShare} f : sProp 𝕄) ⊢ held c (slot2 B (p2 n)) := by
  refine (Entails.of_eq (slot2_pt c B (p2 n) f).symm).trans ?_
  unfold held
  iintro H
  iexists f
  iexact H

omit [FloatOps F] in
/-- A slot held is held at a valuation of the buffer. -/
theorem held_slot2 (c : Dev nD) (B : Memref sig .tc .vmem S2x2048x256 .f32) (n : ℕ) :
    (held c (slot2 B (p2 n)) : sProp 𝕄)
      ⊢ iprop(∃ f : Buf (Elt F) (B.view.loc (c : Thread nD τ)), ⌜True⌝ ∗ (B.view.loc (c : Thread nD τ) ↦[set2 c B n]{fullShare} f)) := by
  unfold held
  iintro ⟨%f, H⟩
  ihave H := (Entails.of_eq (slot2_pt c B (p2 n) f)) $$ H
  iexists f
  isplitr; · ipureintro; trivial
  iexact H

/-- A slot held at a valuation of the buffer is held. -/
theorem slot4_held (c : Dev nD) (B : Memref sig .tc .vmem S4x2048x256 .f32) (n : ℕ) (f : Buf (Elt F) (B.view.loc (c : Thread nD τ))) :
    (B.view.loc (c : Thread nD τ) ↦[set4 c B n]{fullShare} f : sProp 𝕄) ⊢ held c (slot4 B (q4 n)) := by
  refine (Entails.of_eq (slot4_pt c B (q4 n) f).symm).trans ?_
  unfold held
  iintro H
  iexists f
  iexact H

/-- A slot held is held at a valuation of the buffer. -/
theorem held_slot4 (c : Dev nD) (B : Memref sig .tc .vmem S4x2048x256 .f32) (n : ℕ) :
    (held c (slot4 B (q4 n)) : sProp 𝕄)
      ⊢ iprop(∃ f : Buf (Elt F) (B.view.loc (c : Thread nD τ)), ⌜True⌝ ∗ (B.view.loc (c : Thread nD τ) ↦[set4 c B n]{fullShare} f)) := by
  unfold held
  iintro ⟨%f, H⟩
  ihave H := (Entails.of_eq (slot4_pt c B (q4 n) f)) $$ H
  iexists f
  isplitr; · ipureintro; trivial
  iexact H

/-- A two-slot buffer held is its slots held, -/
theorem slots2_cut (c : Dev nD) (B : Memref sig .tc .vmem S2x2048x256 .f32) :
    (held c B : sProp 𝕄) ⊢ iprop(held c (slot2 B (p2 0)) ∗ held c (slot2 B (p2 1))) := by
  rw [← run_two fun n => (held c (slot2 B (p2 n)) : sProp 𝕄)]
  refine BIBase.Entails.trans (Q := iprop(∃ f : Buf (Elt F) (B.view.loc (c : Thread nD τ)), (B.view.loc (c : Thread nD τ) ↦[B.view.set]{fullShare} f))) .rfl ?_
  iintro ⟨%f, H⟩
  ihave H := (cut (set2 c B) 2 B.view.set (slots2 c B).1 (slots2 c B).2 f) $$ H
  have h : (run 0 2 fun n => (B.view.loc (c : Thread nD τ) ↦[set2 c B n]{fullShare} f : sProp 𝕄)) ⊢ run 0 2 fun n => held c (slot2 B (p2 n)) :=
    bigSep_mono fun n _ => slot2_held c B n f
  iapply h $$ H

/-- and back. -/
theorem slots2_glue (c : Dev nD) (B : Memref sig .tc .vmem S2x2048x256 .f32) :
    iprop(held c (slot2 B (p2 0)) ∗ held c (slot2 B (p2 1))) ⊢ (held c B : sProp 𝕄) := by
  rw [← run_two fun n => (held c (slot2 B (p2 n)) : sProp 𝕄)]
  refine (bigSep_mono (fun n _ => held_slot2 c B n)).trans ?_
  refine (glue (set2 c B) 2 B.view.set (slots2 c B).1 (slots2 c B).2 fun _ _ => True).trans ?_
  unfold held
  iintro ⟨%g, -, H⟩
  iexists g
  iexact H

/-- The four-slot buffer held is its slots held, -/
theorem slots4_cut (c : Dev nD) (B : Memref sig .tc .vmem S4x2048x256 .f32) :
    (held c B : sProp 𝕄) ⊢ run 0 4 fun n => held c (slot4 B (q4 n)) := by
  refine BIBase.Entails.trans (Q := iprop(∃ f : Buf (Elt F) (B.view.loc (c : Thread nD τ)), (B.view.loc (c : Thread nD τ) ↦[B.view.set]{fullShare} f))) .rfl ?_
  iintro ⟨%f, H⟩
  ihave H := (cut (set4 c B) 4 B.view.set (slots4 c B).1 (slots4 c B).2 f) $$ H
  have h : (run 0 4 fun n => (B.view.loc (c : Thread nD τ) ↦[set4 c B n]{fullShare} f : sProp 𝕄)) ⊢ run 0 4 fun n => held c (slot4 B (q4 n)) :=
    bigSep_mono fun n _ => slot4_held c B n f
  iapply h $$ H

/-- and back. -/
theorem slots4_glue (c : Dev nD) (B : Memref sig .tc .vmem S4x2048x256 .f32) :
    (run 0 4 fun n => held c (slot4 B (q4 n))) ⊢ (held c B : sProp 𝕄) := by
  refine (bigSep_mono (fun n _ => held_slot4 c B n)).trans ?_
  refine (glue (set4 c B) 4 B.view.set (slots4 c B).1 (slots4 c B).2 fun _ _ => True).trans ?_
  unfold held
  iintro ⟨%g, -, H⟩
  iexists g
  iexact H

/-! ## Bands of columns -/

/-- The rectangle of a band. -/
abbrev colRect (j : Fin 16) : Rect S2048x4096 := Rect.unit (s := S2048x4096) ![0, 256 * j.val] S2048x256.size (inbCols j)

/-- An index of a wide array is in the band its column names. -/
theorem mem_colRect (j : Fin 16) (x : S2048x4096.Idx) : x ∈ (colRect j).set ↔ (x (1 : Fin 2)).val / 256 = j.val := by
  rw [Rect.mem_set_unit]
  have h0 : (x (0 : Fin 2)).val < 2048 := (x (0 : Fin 2)).isLt
  constructor
  · intro h
    have h1 := h (1 : Fin 2)
    simp at h1
    omega
  · intro h a
    fin_cases a
    · show 0 ≤ (x (0 : Fin 2)).val ∧ (x (0 : Fin 2)).val < 0 + 2048; omega
    · show 256 * j.val ≤ (x (1 : Fin 2)).val ∧ (x (1 : Fin 2)).val < 256 * j.val + 256; omega

/-- The elements of the band of step `n`, as elements of the array. -/
def setC (c : Dev nD) (B : Memref sig .tc .hbm S2048x4096 .f32) (n : ℕ) : Finset (Idx (B.view.loc (c : Thread nD τ))) :=
  (cols B (st n)).view.set

/-- The bands are disjoint, and all of the array. -/
theorem bands (c : Dev nD) (B : Memref sig .tc .hbm S2048x4096 .f32) :
    (∀ i ∈ Finset.Ico 0 16, ∀ j ∈ Finset.Ico 0 16, i ≠ j → Disjoint (setC c B i) (setC c B j))
      ∧ (Finset.Ico 0 16).biUnion (setC c B) = B.view.set := by
  constructor
  · intro i hi j hj hij
    rw [Finset.mem_Ico] at hi hj
    refine slices_disjoint B.view (colRect (st i)) (colRect (st j)) (Finset.disjoint_left.mpr fun x h1 h2 => ?_)
    rw [mem_colRect] at h1 h2
    have e1 : (st i).val = i % 16 := rfl
    have e2 : (st j).val = j % 16 := rfl
    omega
  · refine slices_cover B.view (fun n => colRect (st n)) 16 fun x => ?_
    have h : (x (1 : Fin 2)).val < 4096 := (x (1 : Fin 2)).isLt
    refine ⟨(x (1 : Fin 2)).val / 256, Finset.mem_Ico.mpr ⟨Nat.zero_le _, by omega⟩, (mem_colRect _ _).mpr ?_⟩
    show _ = (x (1 : Fin 2)).val / 256 % 16
    omega

/-- A wide array from its bands. -/
def tile (X : ℕ → Vec F S2048x256 .f32) : Vec F S2048x4096 .f32 :=
  fun y => X ((y (1 : Fin 2)).val / 256) (ix2 (y (0 : Fin 2)) ⟨(y (1 : Fin 2)).val % 256, Nat.mod_lt _ (by decide)⟩)

omit [FloatOps F] in
/-- A wide array is made of its bands. -/
theorem tile_colsV (x : Vec F S2048x4096 .f32) : tile (colsV x) = x := by
  funext y
  obtain ⟨r, b, rfl⟩ : ∃ (r : Fin 2048) (b : Fin 4096), y = ix2 r b := ⟨y 0, y 1, eq_ix2 y⟩
  have h := b.isLt
  show x (ix2 r ⟨(256 * (b.val / 256) + b.val % 256) % 4096, _⟩) = x (ix2 r b)
  refine congrArg (fun z => x (ix2 r z)) (Fin.ext ?_)
  show (256 * (b.val / 256) + b.val % 256) % 4096 = b.val
  omega

omit [FloatOps F] in
/-- What a band of an array reads. -/
theorem cols_read (B : Memref sig .tc .hbm S2048x4096 .f32) (n : ℕ) (hn : n < 16) (f : B.view.ty.Contents (Elt F)) (a : Fin 2048) (b : Fin 256) :
    (cols B (st n)).view.read (Elt F) f (ix2 a b) = B.view.read (Elt F) f (ix2 a ⟨256 * n + b.val, by have := b.isLt; omega⟩) := by
  refine congrArg (B.view.read (Elt F) f) ?_
  show (colRect (st n)).emb (ix2 a b) = ix2 a _
  have e : (st n).val = n % 16 := rfl
  funext k
  refine Fin.ext ?_
  fin_cases k
  · show 0 + 1 * a.val = a.val; omega
  · show 256 * (st n).val + 1 * b.val = 256 * n + b.val; omega

omit [FloatOps F] in
/-- A band lies where its array does. -/
theorem cols_pt (c : Dev nD) (B : Memref sig .tc .hbm S2048x4096 .f32) (j : Fin 16) (f : Buf (Elt F) (B.view.loc (c : Thread nD τ))) :
    ((cols B j).view.loc (c : Thread nD τ) ↦[(cols B j).view.set]{fullShare} f : sProp 𝕄)
      = (B.view.loc (c : Thread nD τ) ↦[(cols B j).view.set]{fullShare} f) := rfl

/-- A band of an array held at a value. -/
theorem cols_own (c : Dev nD) (B : Memref sig .tc .hbm S2048x4096 .f32) (X : ℕ → Vec F S2048x256 .f32) (f : Buf (Elt F) (B.view.loc (c : Thread nD τ)))
    (hf : B.view.read (Elt F) f = tile X) (n : ℕ) (hn : n < 16) :
    (B.view.loc (c : Thread nD τ) ↦[setC c B n]{fullShare} f : sProp 𝕄) ⊢ own c (cols B (st n)) (X n) := by
  refine (Entails.of_eq (cols_pt c B (st n) f).symm).trans ?_
  unfold own
  iintro H
  iexists f
  isplitr
  swap; · iexact H
  ipureintro
  funext y
  obtain ⟨a, b, rfl⟩ : ∃ (a : Fin 2048) (b : Fin 256), y = ix2 a b := ⟨y 0, y 1, eq_ix2 y⟩
  have hb := b.isLt
  refine (cols_read B n hn f a b).trans ?_
  rw [hf]
  show X ((256 * n + b.val) / 256) (ix2 a ⟨(256 * n + b.val) % 256, _⟩) = X n (ix2 a b)
  have e1 : (256 * n + b.val) / 256 = n := by omega
  have e2 : (⟨(256 * n + b.val) % 256, Nat.mod_lt _ (by decide)⟩ : Fin 256) = b := Fin.ext (by show (256 * n + b.val) % 256 = b.val; omega)
  rw [e1, e2]

/-- A band held at a value is held at a valuation of the array that reads it. -/
theorem own_cols (c : Dev nD) (B : Memref sig .tc .hbm S2048x4096 .f32) (n : ℕ) (x : Vec F S2048x256 .f32) :
    (own c (cols B (st n)) x : sProp 𝕄)
      ⊢ iprop(∃ f : Buf (Elt F) (B.view.loc (c : Thread nD τ)), ⌜(cols B (st n)).view.read (Elt F) f = x⌝
        ∗ (B.view.loc (c : Thread nD τ) ↦[setC c B n]{fullShare} f)) := by
  unfold own
  iintro ⟨%f, %hf, H⟩
  ihave H := (Entails.of_eq (cols_pt c B (st n) f)) $$ H
  iexists f
  isplitr; · ipureintro; exact hf
  iexact H

/-- A wide array held at a value is its bands held at its bands, -/
theorem bands_cut (c : Dev nD) (B : Memref sig .tc .hbm S2048x4096 .f32) (X : ℕ → Vec F S2048x256 .f32) :
    (own c B (tile X) : sProp 𝕄) ⊢ run 0 16 fun n => own c (cols B (st n)) (X n) := by
  refine BIBase.Entails.trans (Q := iprop(∃ f : Buf (Elt F) (B.view.loc (c : Thread nD τ)), ⌜B.view.read (Elt F) f = tile X⌝ ∗ (B.view.loc (c : Thread nD τ) ↦[B.view.set]{fullShare} f))) .rfl ?_
  iintro ⟨%f, %hf, H⟩
  ihave H := (cut (setC c B) 16 B.view.set (bands c B).1 (bands c B).2 f) $$ H
  have h : (run 0 16 fun n => (B.view.loc (c : Thread nD τ) ↦[setC c B n]{fullShare} f : sProp 𝕄)) ⊢ run 0 16 fun n => own c (cols B (st n)) (X n) :=
    bigSep_mono (fun n hn => cols_own c B X f hf n (Finset.mem_Ico.mp hn).2)
  iapply h $$ H

omit [FloatOps F] in
/-- Arrays that agree on a band read the same there. -/
theorem cols_congr (c : Dev nD) (B : Memref sig .tc .hbm S2048x4096 .f32) (n : ℕ) (f g : Buf (Elt F) (B.view.loc (c : Thread nD τ)))
    (h : ∀ i ∈ setC c B n, g i = f i) : (cols B (st n)).view.read (Elt F) g = (cols B (st n)).view.read (Elt F) f := by
  have h' : ∀ i ∈ (cols B (st n)).view.set, (show (cols B (st n)).view.ty.Contents (Elt F) from g) i = (show (cols B (st n)).view.ty.Contents (Elt F) from f) i := h
  exact View.read_congr h'

/-- and back. -/
theorem bands_glue (c : Dev nD) (B : Memref sig .tc .hbm S2048x4096 .f32) (X : ℕ → Vec F S2048x256 .f32) :
    (run 0 16 fun n => own c (cols B (st n)) (X n)) ⊢ (own c B (tile X) : sProp 𝕄) := by
  refine (bigSep_mono (fun n _ => own_cols c B n (X n))).trans ?_
  refine (glue (setC c B) 16 B.view.set (bands c B).1 (bands c B).2
    fun n f => (cols B (st n)).view.read (Elt F) f = X n).trans ?_
  unfold own
  iintro ⟨%g, %hg, H⟩
  iexists g
  isplitr
  swap; · iexact H
  ipureintro
  funext y
  obtain ⟨r, b, rfl⟩ : ∃ (r : Fin 2048) (b : Fin 4096), y = ix2 r b := ⟨y 0, y 1, eq_ix2 y⟩
  have hb := b.isLt
  have h' : (cols B (st (b.val / 256))).view.read (Elt F) g = X (b.val / 256) :=
    (hg (b.val / 256) (Finset.mem_Ico.mpr ⟨Nat.zero_le _, by omega⟩)).elim fun f h => (cols_congr c B (b.val / 256) f g h.2).trans h.1
  have h := cols_read B (b.val / 256) (by omega) g r ⟨b.val % 256, Nat.mod_lt _ (by decide)⟩
  rw [h'] at h
  have e : (⟨256 * (b.val / 256) + b.val % 256, by omega⟩ : Fin 4096) = b := Fin.ext (by show 256 * (b.val / 256) + b.val % 256 = b.val; omega)
  exact (congrArg (fun z => B.view.read (Elt F) g (ix2 r z)) e).symm.trans h.symm

/-- A wide array held is its bands held. -/
theorem bands_any (c : Dev nD) (B : Memref sig .tc .hbm S2048x4096 .f32) (x : Vec F S2048x4096 .f32) :
    (own c B x : sProp 𝕄) ⊢ run 0 16 fun n => held c (cols B (st n)) := by
  have h := bands_cut c B (colsV x)
  rw [tile_colsV] at h
  exact h.trans (bigSep_mono fun n _ => own_held c (cols B (st n)) _)

end Cert.KernelIdeal.Run

end
-- ==== Proof.Region.lean ====
/-
  The kernel call as a segment of the program: what the launch hands to it, what it takes from memory, and what it gives
  back. On the way in the semaphores of the protocol are opened and the buffers are taken apart; on the way out the cells
  are closed and the buffers put together.
-/
module

public import proofs.«01_k».proof.Proof.Parts
public import proofs.«01_k».proof.Proof.Gen.KernelIdeal.Regions
public import Idealize.ShloMosaic.Lib.Pipeline.RegionTalk

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The contents -/

/-- The partner's rows as the host operations leave them. -/
def Th (c : Dev nD) : Vec F S2048x2048 .f32 := V1 m c main_v18
/-- This device's rows as the host operations leave them. -/
def Mi (c : Dev nD) : Vec F S2048x2048 .f32 := V1 m c main_v17
/-- This device's half of the weights. -/
def Wo (c : Dev nD) : Vec F S2048x4096 .f32 := V1 m c main_arg1
/-- The result of the kernel call. -/
def res (c : Dev nD) : Vec F S2048x4096 .f32 := tile (outV (Th m) (Wo m) (Mi m) c)

/-- The buffers after the kernel call: the result written, all else as before. -/
def W2 (c : Dev nD) : Valuation τ sig (Elt F) := Function.update (V1 m c) main_v19 (res m c)
/-- The same, as the list of what the call may change. -/
def outs : Outs (F := F) := fun _ r c => W2 m c r

/-- The buffers in HBM that the kernel addresses. -/
def bufs : Finset (DevRef τ sig) :=
  {Proc.devRef .tc main_v18, Proc.devRef .tc main_v17, Proc.devRef .tc main_arg1, Proc.devRef .tc main_v19}

/-- These buffers outlive the kernel. -/
theorem bufs_sub : bufs ⊆ Pipeline.ucRefs τ sig := by decide

/-- After the call the result buffer holds the result. -/
theorem W2_v19 (c : Dev nD) : W2 m c main_v19 = res m c := Function.update_self _ _ _
/-- After the call any other buffer holds what it held. -/
theorem W2_of (c : Dev nD) (r : Ref sig .tc) (h : r ≠ main_v19) : W2 m c r = V1 m c r :=
  Function.update_of_ne (StableHlo.devRef_ne_of_ne h) _ _

/-- The result buffer in the contents after the call. -/
theorem V2_v19 (c : Dev nD) : V2 m (outs m) c main_v19 = res m c :=
  (Function.update_self _ _ _).trans (W2_v19 m c)
/-- The device's rows in the contents after the call. -/
theorem V2_v17 (c : Dev nD) : V2 m (outs m) c main_v17 = V1 m c main_v17 :=
  (Function.update_of_ne (StableHlo.devRef_ne_of_ne (by decide)) _ _).trans
    ((Function.update_self _ _ _).trans (W2_of m c main_v17 (by decide)))
/-- The partner's rows in the contents after the call. -/
theorem V2_v18 (c : Dev nD) : V2 m (outs m) c main_v18 = V1 m c main_v18 :=
  (Function.update_of_ne (StableHlo.devRef_ne_of_ne (by decide)) _ _).trans
    ((Function.update_of_ne (StableHlo.devRef_ne_of_ne (by decide)) _ _).trans
      ((Function.update_self _ _ _).trans (W2_of m c main_v18 (by decide))))
/-- The weights in the contents after the call. -/
theorem V2_arg1 (c : Dev nD) : V2 m (outs m) c main_arg1 = V1 m c main_arg1 := V2_of m (outs m) c main_arg1 (by decide)

/-- Off the kernel's buffers nothing changes. -/
theorem V2_rest (c : Dev nD) : ∀ b ∈ Pipeline.ucRefs τ sig \ bufs, V2 m (outs m) c b = V1 m c b := fun b hb => by
  have hb := (Finset.mem_sdiff.mp hb).2
  have h1 : b ≠ Proc.devRef .tc main_v18 := fun e => hb (by rw [e]; decide)
  have h2 : b ≠ Proc.devRef .tc main_v17 := fun e => hb (by rw [e]; decide)
  have h3 : b ≠ Proc.devRef .tc main_v19 := fun e => hb (by rw [e]; decide)
  rw [V2, Function.update_of_ne h3, Function.update_of_ne h2, Function.update_of_ne h1]

/-! ## Whole buffers -/

omit [FloatOps F] in
/-- A whole buffer held at a value. -/
theorem own_whole (c : Dev nD) (r : Ref sig .tc) (x : Buf (Elt F) ((c : Thread nD τ).loc r)) :
    (own c (Memref.whole r) x : sProp 𝕄) = (((c : Thread nD τ).loc r) ↦{fullShare} x) := by
  unfold own
  refine Entails.antisymm (?_ : (_ : sProp 𝕄) ⊢ _) (?_ : (_ : sProp 𝕄) ⊢ _)
  · iintro ⟨%f, %hf, H⟩
    have e : f = x := hf
    subst e
    rw [show (Memref.whole r).view.set = Finset.univ from View.set_whole r]
    iexact H
  · iintro H
    iexists x
    isplitr; · ipureintro; rfl
    rw [show (Memref.whole r).view.set = Finset.univ from View.set_whole r]
    iexact H

omit [FloatOps F] in
/-- A whole buffer held at some contents. -/
theorem held_whole (c : Dev nD) (r : Ref sig .tc) :
    (held c (Memref.whole r) : sProp 𝕄) = iprop(∃ f : Buf (Elt F) ((c : Thread nD τ).loc r), ((c : Thread nD τ).loc r) ↦{fullShare} f) := by
  unfold held
  rw [show (Memref.whole r).view.set = Finset.univ from View.set_whole r]

/-- The kernel's buffers in HBM, held at the values of a valuation. -/
def hbm (c : Dev nD) (V : Valuation τ sig (Elt F)) : sProp 𝕄 :=
  iprop(own c theirsH (V main_v18 : Vec F S2048x2048 .f32) ∗ own c mineH (V main_v17 : Vec F S2048x2048 .f32)
    ∗ own c woH (V main_arg1 : Vec F S2048x4096 .f32) ∗ own c outH (V main_v19 : Vec F S2048x4096 .f32))

/-- The buffers in HBM, held together and one by one. -/
theorem held_bufs (c : Dev nD) (V : Valuation τ sig (Elt F)) : (StableHlo.held (c : Thread nD τ) bufs V : sProp 𝕄) = hbm c V := by
  unfold hbm theirsH mineH woH outH
  rw [own_whole, own_whole, own_whole, own_whole]
  unfold StableHlo.held bufs
  rw [bigSep_insert (by decide), bigSep_insert (by decide), bigSep_insert (by decide), bigSep_singleton]
  rfl

/-- The kernel's own buffers, each held. -/
def vmem (c : Dev nD) : sProp 𝕄 :=
  iprop(held c theirsV ∗ held c mineV ∗ held c woB ∗ held c sendB ∗ held c recvB ∗ held c resB)

/-- The kernel's own buffers, held together and one by one. -/
theorem scopedRest_vmem (c : Dev nD) :
    (Pipeline.scopedRest (Ix := ℕ) (Name := ℕ) (U := UU) (Lvl := ℕ) (Val := Elt F) (cfg0.spec) c : sProp 𝕄) = vmem c := by
  unfold vmem theirsV mineV woB sendB recvB resB
  rw [held_whole, held_whole, held_whole, held_whole, held_whole, held_whole]
  exact scopedRest0_eq c

/-! ## The semaphores -/

/-- The kernel's own semaphores. -/
def osem (k : Fin 12) : SemLoc sig := .dma k

/-- The semaphores of the local copies, at zero. -/
def plain (c : Dev nD) : sProp 𝕄 :=
  iprop((semVal ((c : Thread nD τ), .dma (inSem 0)) 0 ∗ semVal ((c : Thread nD τ), .dma (inSem 1)) 0)
    ∗ (semVal ((c : Thread nD τ), .dma (woSem 0)) 0 ∗ semVal ((c : Thread nD τ), .dma (woSem 1)) 0)
    ∗ (semVal ((c : Thread nD τ), .dma (outSem 0)) 0 ∗ semVal ((c : Thread nD τ), .dma (outSem 1)) 0))
/-- The semaphores of the protocol, at zero. -/
def zeros (c : Dev nD) : sProp 𝕄 :=
  iprop((run 0 2 fun n => semVal (sendCell c n) 0) ∗ (run 0 4 fun n => semVal (recvCell c n) 0))

omit [FloatOps F] in
/-- A run of four. -/
theorem run_four (Φ : ℕ → sProp 𝕄) : run 0 4 Φ = iprop(Φ 0 ∗ Φ 1 ∗ Φ 2 ∗ Φ 3) := by
  rw [run_bot (by decide), run_bot (by decide), run_bot (by decide), show (run (0 + 1 + 1 + 1) 4 Φ : sProp 𝕄) = Φ 3 from by
    show bigSep (Finset.Ico 3 4) Φ = Φ 3
    rw [show Finset.Ico 3 4 = {3} from by decide, bigSep_singleton]]

omit [FloatOps F] in
/-- All the kernel's semaphores at zero: those of the local copies and those of the protocol. -/
theorem ownSems_eq (c : Dev nD) : (Pipeline.ownSems0 osem c : sProp 𝕄) = iprop(plain c ∗ zeros c) := by
  rw [Pipeline.ownSems0_eq_of_list c osem [inSem 0, inSem 1, woSem 0, woSem 1, outSem 0, outSem 1, sendSem 0, sendSem 1,
    recvSem 0, recvSem 1, recvSem 2, recvSem 3] (by decide) (by decide)]
  unfold plain zeros
  rw [run_two, run_four]
  show iprop(semVal ((c : Thread nD τ), .dma (inSem 0)) 0 ∗ semVal ((c : Thread nD τ), .dma (inSem 1)) 0
    ∗ semVal ((c : Thread nD τ), .dma (woSem 0)) 0 ∗ semVal ((c : Thread nD τ), .dma (woSem 1)) 0
    ∗ semVal ((c : Thread nD τ), .dma (outSem 0)) 0 ∗ semVal ((c : Thread nD τ), .dma (outSem 1)) 0
    ∗ semVal (sendCell c 0) 0 ∗ semVal (sendCell c 1) 0
    ∗ semVal (recvCell c 0) 0 ∗ semVal (recvCell c 1) 0 ∗ semVal (recvCell c 2) 0 ∗ semVal (recvCell c 3) 0) = _
  refine Entails.antisymm (?_ : (_ : sProp 𝕄) ⊢ _) (?_ : (_ : sProp 𝕄) ⊢ _)
  · iintro ⟨H1, H2, H3, H4, H5, H6, H7, H8, H9⟩
    isplitr [H7 H8 H9]
    · isplitl [H1 H2]; · isplitl [H1] <;> iassumption
      isplitl [H3 H4]; · isplitl [H3] <;> iassumption
      isplitl [H5] <;> iassumption
    isplitl [H7 H8]; · isplitl [H7] <;> iassumption
    iexact H9
  · iintro ⟨⟨⟨H1, H2⟩, ⟨H3, H4⟩, ⟨H5, H6⟩⟩, ⟨H7, H8⟩, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## Opening and closing the cells -/

section Cells

variable (T : Dev nD → Vec F S2048x2048 .f32) (W : Dev nD → Vec F S2048x4096 .f32) (K : GSem nD τ sig → ℕ)

/-- Opening a run of cells. -/
theorem open_run (k : ℕ) (cell : ℕ → GSem nD τ sig) (hc : ∀ n, cell n ∈ (barCells ∪ scCells : Finset (GSem nD τ sig))) :
    iprop(invs T W K ∗ ((run 0 k fun n => openTok ER (cell n)) ∗ (run 0 k fun n => semVal (cell n) 0)))
      ⊢ |={Set.univ}=> (run 0 k fun n => (iprop(atPos ER (cell n) 0 ∅ 0 ∗ reached ER (cell n) 0) : sProp 𝕄)) := by
  refine BIBase.Entails.trans ?_ (bigSep_fupd _ _)
  refine BIBase.Entails.trans ?_ (bigSep_with_persistent (R := invs T W K) (Φ := fun n => (iprop(openTok ER (cell n) ∗ semVal (cell n) 0) : sProp 𝕄)) fun n _ => ?_)
  · iintro ⟨HI, H⟩
    isplitl [HI]; · iexact HI
    iapply (Entails.of_eq (bigSep_sep _ _ _).symm)
    iexact H
  · iintro ⟨#HI, H1, H2⟩
    iapply (Rounds.cell_open ER (rd T W) (g := cell n) (Set.mem_univ (K (cell n))))
    isplitr; · iapply (inv_at T W K (hc n)); iexact HI
    isplitl [H1] <;> iassumption

/-- Closing a run of cells. -/
theorem close_run (a b : ℕ) (cell : ℕ → GSem nD τ sig) (r : ℕ → ℕ) (hc : ∀ n, cell n ∈ (barCells ∪ scCells : Finset (GSem nD τ sig)))
    (hl : ∀ n ∈ Finset.Ico a b, ∀ s, r n ≤ s → (rd T W).duties (cell n) s = ∅) :
    iprop(invs T W K ∗ (run a b fun n => atPos ER (cell n) (r n) ∅ 0))
      ⊢ |={Set.univ}=> (run a b fun n => (semVal (cell n) 0 : sProp 𝕄)) := by
  refine BIBase.Entails.trans ?_ (bigSep_fupd _ _)
  refine bigSep_with_persistent (R := invs T W K) (Φ := fun n => (atPos ER (cell n) (r n) ∅ 0 : sProp 𝕄)) fun n hn => ?_
  iintro ⟨#HI, H⟩
  iapply (Rounds.cell_close ER (rd T W) (Set.mem_univ (K (cell n))) id (hl n hn))
  isplitr; · iapply (inv_at T W K (hc n)); iexact HI
  iexact H

end Cells

/-! ## The call's entry and exit -/

/-- What the launch gives a device for the call: the cells' invariants; the position at its barrier cell and the rights to open
    its other cells; the duties it may discharge. -/
def ghost (K : GSem nD τ sig → ℕ) (c : Dev nD) : sProp 𝕄 :=
  iprop(invs (Th m) (Wo m) K ∗ atPos ER (barCell c) 0 ∅ 0
    ∗ (run 0 2 fun n => openTok ER (sendCell c n)) ∗ (run 0 4 fun n => openTok ER (recvCell c n))
    ∗ reached ER (barCell (peer c)) 0 ∗ dutyTok ER (barCell (peer c)) 0 () ∗ run 0 16 (sendTok c))
/-- The same with the credit for what the partner owes. -/
def Tk (c : Dev nD) : sProp 𝕄 :=
  iprop((∃ K, ghost m K c) ∗ cred (tallyAt (barCell c) 0 1) ∗ run 0 16 (recvCred c))
/-- The cells open, all in one. -/
def opened (c : Dev nD) : sProp 𝕄 :=
  iprop(barIn c ∗ (run 0 2 fun n => (iprop(atPos ER (sendCell c n) 0 ∅ 0 ∗ reached ER (sendCell c n) 0) : sProp 𝕄))
    ∗ (run 0 4 fun n => (iprop(atPos ER (recvCell c n) 0 ∅ 0 ∗ reached ER (recvCell c n) 0) : sProp 𝕄))
    ∗ run 0 16 (sendTok c) ∗ run 0 16 (recvCred c) ∗ plain c)
/-- The call's start, short of memory. -/
def Xk (c : Dev nD) : sProp 𝕄 := iprop(∃ K, ctx (Th m) (Wo m) K ∗ opened c)
/-- What is left of the protocol: the barrier cell at zero. -/
def Yk (c : Dev nD) : sProp 𝕄 := semVal (barCell c) 0

/-- At the entry the cells of the protocol are opened. -/
theorem hopen (c : Dev nD) : iprop(Tk m c ∗ Pipeline.ownSems0 osem c ∗ levAts L lv) ⊢ (|={Set.univ}=> Xk m c : sProp 𝕄) := by
  rw [ownSems_eq]
  unfold Tk Xk ghost zeros
  iintro ⟨⟨⟨%K, #HI, HatB, HoS, HoR, #HrP, HtP, Htok⟩, HcB, HcR⟩, ⟨Hpl, Hs0, Hr0⟩, #Hlev⟩
  imod (open_run (Th m) (Wo m) K 2 (sendCell c) (send_mem c)) $$ [HoS Hs0] with Hsend
  · isplitr; · iexact HI
    isplitl [HoS] <;> iassumption
  imod (open_run (Th m) (Wo m) K 4 (recvCell c) (recv_mem c)) $$ [HoR Hr0] with Hrecv
  · isplitr; · iexact HI
    isplitl [HoR] <;> iassumption
  imodintro
  iexists K
  unfold opened ctx barIn
  isplitr
  · isplitr; · iexact HI
    iexact Hlev
  isplitl [HatB HtP HcB]
  · isplitr; · iexact HrP
    isplitl [HtP]; · iexact HtP
    isplitl [HatB] <;> iassumption
  isplitl [Hsend]; · iexact Hsend
  isplitl [Hrecv]; · iexact Hrecv
  isplitl [Htok]; · iexact Htok
  isplitl [HcR] <;> iassumption

/-- The start of the kernel's run, short of what is owed. -/
def entry (c : Dev nD) : sProp 𝕄 :=
  iprop((rowsIn c theirsH theirsV 0 (Th m c) ∗ rowsIn c mineH mineV 1 (Mi m c)) ∗ (woFree c 0 ∗ woFree c 1)
    ∗ run 0 16 (woCol (Wo m) c) ∗ barIn c ∗ (sendPos c 0 ∗ sendPos c 1) ∗ (sendFree c 0 ∗ sendFree c 1) ∗ run 0 16 (sendTok c)
    ∗ run 0 4 (recvPos c) ∗ run 0 16 (recvCred c) ∗ (recvFree c 0 ∗ recvFree c 1 ∗ recvFree c 2 ∗ recvFree c 3)
    ∗ (outFree c 0 ∗ outFree c 1) ∗ run 0 16 (outAny c))

/-- What the kernel enters with, and what it owes, make the state in which its body starts. -/
theorem entry_owes (c : Dev nD) : iprop(entry m c ∗ ∃ W, owes (c : Thread nD τ) (O₀ c) W) ⊢ (atStart (Th m) (Mi m) (Wo m) c : sProp 𝕄) := by
  unfold entry atStart
  iintro ⟨⟨H1, H2, H3, H4, H5, H6, H7, H8, H9, H10, H11, H12⟩, HO⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12] <;> iassumption

/-- The buffers in HBM, the weights and the result in column blocks. -/
def hbmIn (c : Dev nD) : sProp 𝕄 :=
  iprop(own c theirsH (Th m c) ∗ own c mineH (Mi m c) ∗ run 0 16 (woCol (Wo m) c) ∗ run 0 16 (outAny c))
/-- The kernel's own buffers, those in slots slot by slot. -/
def vmemIn (c : Dev nD) : sProp 𝕄 :=
  iprop(held c theirsV ∗ held c mineV ∗ (held c (slot2 woB (p2 0)) ∗ held c (slot2 woB (p2 1)))
    ∗ (held c (slot2 sendB (p2 0)) ∗ held c (slot2 sendB (p2 1))) ∗ (run 0 4 fun n => held c (slot4 recvB (q4 n)))
    ∗ (held c (slot2 resB (p2 0)) ∗ held c (slot2 resB (p2 1))))

/-- The buffers in HBM, taken apart for the body. -/
theorem hbm_in (c : Dev nD) : (hbm c (V1 m c) : sProp 𝕄) ⊢ hbmIn m c := by
  unfold hbm hbmIn
  have hw : (own c woH (V1 m c main_arg1 : Vec F S2048x4096 .f32) : sProp 𝕄) ⊢ run 0 16 (woCol (Wo m) c) := by
    have h := bands_cut (F := F) c woH (colsV (Wo m c))
    rw [tile_colsV] at h
    exact h
  have ho : (own c outH (V1 m c main_v19 : Vec F S2048x4096 .f32) : sProp 𝕄) ⊢ run 0 16 (outAny c) := bands_any c outH _
  iintro ⟨H1, H2, H3, H4⟩
  isplitl [H1]; · iexact H1
  isplitl [H2]; · iexact H2
  isplitl [H3]; · iapply hw $$ H3
  iapply ho $$ H4

/-- The kernel's own buffers, taken apart for the body. -/
theorem vmem_in (c : Dev nD) : (vmem c : sProp 𝕄) ⊢ vmemIn c := by
  unfold vmem vmemIn
  iintro ⟨H1, H2, H3, H4, H5, H6⟩
  isplitl [H1]; · iexact H1
  isplitl [H2]; · iexact H2
  isplitl [H3]; · iapply (slots2_cut c woB) $$ H3
  isplitl [H4]; · iapply (slots2_cut c sendB) $$ H4
  isplitl [H5]; · iapply (slots4_cut c recvB) $$ H5
  iapply (slots2_cut c resB) $$ H6

/-- The kernel's own buffers, put together after the body. -/
theorem vmem_out (c : Dev nD) : (vmemIn c : sProp 𝕄) ⊢ vmem c := by
  unfold vmem vmemIn
  iintro ⟨H1, H2, H3, H4, H5, H6⟩
  isplitl [H1]; · iexact H1
  isplitl [H2]; · iexact H2
  isplitl [H3]; · iapply (slots2_glue c woB) $$ H3
  isplitl [H4]; · iapply (slots2_glue c sendB) $$ H4
  isplitl [H5]; · iapply (slots4_glue c recvB) $$ H5
  iapply (slots2_glue c resB) $$ H6

/-- What the kernel leaves in HBM, the weights and the result in column blocks. -/
def hbmOut (c : Dev nD) : sProp 𝕄 :=
  iprop(own c theirsH (Th m c) ∗ own c mineH (Mi m c) ∗ run 0 16 (woCol (Wo m) c) ∗ run 0 16 (outCol (Th m) (Wo m) (Mi m) c))

/-- The buffers in HBM, put together after the body. -/
theorem hbm_out (c : Dev nD) : (hbmOut m c : sProp 𝕄) ⊢ hbm c (V2 m (outs m) c) := by
  unfold hbm hbmOut
  rw [V2_v18, V2_v17, V2_arg1, V2_v19]
  have hw : (run 0 16 (woCol (Wo m) c) : sProp 𝕄) ⊢ own c woH (Wo m c) := by
    have h := bands_glue (F := F) c woH (colsV (Wo m c))
    rw [tile_colsV] at h
    exact h
  have ho : (run 0 16 (outCol (Th m) (Wo m) (Mi m) c) : sProp 𝕄) ⊢ own c outH (res m c) := bands_glue c outH _
  iintro ⟨H1, H2, H3, H4⟩
  isplitl [H1]; · iexact H1
  isplitl [H2]; · iexact H2
  isplitl [H3]; · iapply hw $$ H3
  iapply ho $$ H4

/-- The start of the kernel's run, put together from the protocol's part and the memory. -/
theorem entry_of (c : Dev nD) : iprop(vmemIn c ∗ hbmIn m c ∗ opened c) ⊢ (entry m c : sProp 𝕄) := by
  unfold vmemIn hbmIn opened entry rowsIn woFree outFree sendFree recvFree sendPos recvPos plain
  rw [run_two, run_four, run_four, run_four]
  iintro ⟨⟨HtV, HmV, ⟨Hw0, Hw1⟩, ⟨Hs0, Hs1⟩, ⟨Hr0, Hr1, Hr2, Hr3⟩, ⟨Ho0, Ho1⟩⟩, ⟨HtH, HmH, Hwo, Hout⟩, Hbar,
    ⟨⟨HpS0, HrS0⟩, ⟨HpS1, HrS1⟩⟩, ⟨⟨HpR0, HrR0⟩, ⟨HpR1, HrR1⟩, ⟨HpR2, HrR2⟩, ⟨HpR3, HrR3⟩⟩, Htok, Hcr,
    ⟨Hi0, Hi1⟩, ⟨Hwz0, Hwz1⟩, ⟨Hoz0, Hoz1⟩⟩
  isplitl [HtV HmV HtH HmH Hi0 Hi1]
  · isplitl [HtV HtH Hi0]
    · isplitl [HtH]; · iexact HtH
      isplitl [HtV] <;> iassumption
    isplitl [HmH]; · iexact HmH
    isplitl [HmV] <;> iassumption
  isplitl [Hw0 Hw1 Hwz0 Hwz1]
  · isplitl [Hw0 Hwz0]
    · isplitl [Hw0]; · iexact Hw0
      iexact Hwz0
    isplitl [Hw1]; · iexact Hw1
    iexact Hwz1
  isplitl [Hwo]; · iexact Hwo
  isplitl [Hbar]; · iexact Hbar
  isplitl [HpS0 HpS1]
  · isplitl [HpS0]; · iexact HpS0
    iexact HpS1
  isplitl [Hs0 Hs1 HrS0 HrS1]
  · isplitl [Hs0 HrS0]
    · isplitl [Hs0]; · iexact Hs0
      iexact HrS0
    isplitl [Hs1]; · iexact Hs1
    iexact HrS1
  isplitl [Htok]; · iexact Htok
  isplitl [HpR0 HpR1 HpR2 HpR3]
  · isplitl [HpR0]; · iexact HpR0
    isplitl [HpR1]; · iexact HpR1
    isplitl [HpR2]; · iexact HpR2
    iexact HpR3
  isplitl [Hcr]; · iexact Hcr
  isplitl [Hr0 Hr1 Hr2 Hr3 HrR0 HrR1 HrR2 HrR3]
  · isplitl [Hr0 HrR0]
    · isplitl [Hr0]; · iexact Hr0
      iexact HrR0
    isplitl [Hr1 HrR1]
    · isplitl [Hr1]; · iexact Hr1
      iexact HrR1
    isplitl [Hr2 HrR2]
    · isplitl [Hr2]; · iexact Hr2
      iexact HrR2
    isplitl [Hr3]; · iexact Hr3
    iexact HrR3
  isplitl [Ho0 Ho1 Hoz0 Hoz1]
  · isplitl [Ho0 Hoz0]
    · isplitl [Ho0]; · iexact Ho0
      iexact Hoz0
    isplitl [Ho1]; · iexact Ho1
    iexact Hoz1
  iexact Hout

/-- The kernel's end: memory in parts, and every semaphore at zero. -/
def leave (c : Dev nD) : sProp 𝕄 := iprop(vmemIn c ∗ hbmOut m c ∗ plain c ∗ zeros c ∗ Yk c)

omit [FloatOps F] in
/-- The two steps after the last. -/
theorem run_past2 (Φ : ℕ → sProp 𝕄) : run 16 18 Φ = iprop(Φ 16 ∗ Φ 17) := by
  rw [run_bot (by decide), show (run (16 + 1) 18 Φ : sProp 𝕄) = Φ 17 from by
    show bigSep (Finset.Ico 17 18) Φ = Φ 17
    rw [show Finset.Ico 17 18 = {17} from by decide, bigSep_singleton]]
omit [FloatOps F] in
/-- The four steps after the last. -/
theorem run_past4 (Φ : ℕ → sProp 𝕄) : run 16 20 Φ = iprop(Φ 16 ∗ Φ 17 ∗ Φ 18 ∗ Φ 19) := by
  rw [run_bot (by decide), run_bot (by decide), run_bot (by decide), show (run (16 + 1 + 1 + 1) 20 Φ : sProp 𝕄) = Φ 19 from by
    show bigSep (Finset.Ico 19 20) Φ = Φ 19
    rw [show Finset.Ico 19 20 = {19} from by decide, bigSep_singleton]]

/-- The cells closed, the kernel's end is reached. -/
theorem leave_of (c : Dev nD) (K : GSem nD τ sig → ℕ) :
    iprop(ctx (Th m) (Wo m) K ∗ atEnd (Th m) (Mi m) (Wo m) c ∗ aside (Th m) (Mi m) c)
      ⊢ (|={Set.univ}=> (iprop(leave m c ∗ debt c 16)) : sProp 𝕄) := by
  unfold ctx atEnd aside rows woFree sendFree outFree sendPos leave vmemIn hbmOut plain zeros Yk
  rw [run_past4 (recvFree c), run_two, run_four, run_four]
  unfold recvFree
  iintro ⟨⟨#HI, -⟩, ⟨⟨HtV, HmV⟩, ⟨⟨Hw0, Hwz0⟩, ⟨Hw1, Hwz1⟩⟩, Hwo, ⟨HpS0, HpS1⟩, ⟨⟨Hs0, -⟩, ⟨Hs1, -⟩⟩, HpR, ⟨⟨HR0, -⟩, ⟨HR1, -⟩, ⟨HR2, -⟩, ⟨HR3, -⟩⟩, ⟨⟨Ho0, Hoz0⟩, ⟨Ho1, Hoz1⟩⟩, Hout, HO⟩,
    ⟨HtH, Hi0⟩, ⟨HmH, Hi1⟩, HatB⟩
  imod (close_run (Th m) (Wo m) K 16 18 (sendCell c) (fun n => n / 2) (send_mem c)
    fun n hn => later_send (Th m) (Wo m) c n (Finset.mem_Ico.mp hn).1) $$ [HpS0 HpS1] with Hsz
  · isplitr; · iexact HI
    rw [run_past2]
    isplitl [HpS0]; · iexact HpS0
    iexact HpS1
  imod (close_run (Th m) (Wo m) K 16 20 (recvCell c) (fun n => n / 4) (recv_mem c)
    fun n hn => later_recv (Th m) (Wo m) c n (Finset.mem_Ico.mp hn).1) $$ [HpR] with Hrz
  · isplitr; · iexact HI
    iexact HpR
  imod (Rounds.cell_close ER (rd (Th m) (Wo m)) (Set.mem_univ (K (barCell c))) id (later_bar (Th m) (Wo m) c)) $$ [HatB] with Hbz
  · isplitr; · iapply (inv_at (Th m) (Wo m) K (bar_mem c)); iexact HI
    iexact HatB
  imodintro
  isplitr [HO]
  · ihave Hsz' := (Entails.of_eq (run_past2 fun n => (semVal (sendCell c n) 0 : sProp 𝕄))) $$ Hsz
    icases Hsz' with ⟨Hsz0, Hsz1⟩
    ihave Hrz' := (Entails.of_eq (run_past4 fun n => (semVal (recvCell c n) 0 : sProp 𝕄))) $$ Hrz
    icases Hrz' with ⟨Hrz0, Hrz1, Hrz2, Hrz3⟩
    isplitl [HtV HmV Hw0 Hw1 Hs0 Hs1 HR0 HR1 HR2 HR3 Ho0 Ho1]
    · isplitl [HtV]; · iapply (own_held c theirsV (Th m c)) $$ HtV
      isplitl [HmV]; · iapply (own_held c mineV (Mi m c)) $$ HmV
      isplitl [Hw0 Hw1]
      · isplitl [Hw0]; · iexact Hw0
        iexact Hw1
      isplitl [Hs0 Hs1]
      · isplitl [Hs0]; · iexact Hs0
        iexact Hs1
      isplitl [HR0 HR1 HR2 HR3]
      · isplitl [HR0]; · iexact HR0
        isplitl [HR1]; · iexact HR1
        isplitl [HR2]; · iexact HR2
        iexact HR3
      isplitl [Ho0]; · iexact Ho0
      iexact Ho1
    isplitl [HtH HmH Hwo Hout]
    · isplitl [HtH]; · iexact HtH
      isplitl [HmH]; · iexact HmH
      isplitl [Hwo] <;> iassumption
    isplitl [Hi0 Hi1 Hwz0 Hwz1 Hoz0 Hoz1]
    · isplitl [Hi0 Hi1]
      · isplitl [Hi0]; · iexact Hi0
        iexact Hi1
      isplitl [Hwz0 Hwz1]
      · isplitl [Hwz0]; · iexact Hwz0
        iexact Hwz1
      isplitl [Hoz0]; · iexact Hoz0
      iexact Hoz1
    isplitl [Hsz0 Hsz1 Hrz0 Hrz1 Hrz2 Hrz3]
    · isplitl [Hsz0 Hsz1]
      · isplitl [Hsz0]; · iexact Hsz0
        iexact Hsz1
      isplitl [Hrz0]; · iexact Hrz0
      isplitl [Hrz1]; · iexact Hrz1
      isplitl [Hrz2]; · iexact Hrz2
      iexact Hrz3
    iexact Hbz
  iexact HO

/-! ## The call's proof data -/

/-- The call's one step: in with everything in parts, out with everything in parts. -/
def dat0 (c : Dev nD) : Dat τ (Elt F) ℕ ℕ UU ℕ (cfgs 0) c where
  A w := w.elim0
  after w := w.elim0
  Φ t := if t.val = 0 then iprop((∃ K, ctx (Th m) (Wo m) K ∗ entry m c) ∗ ∃ r, prngReg c r) else iprop(leave m c ∗ ∃ r, prngReg c r)
  q w := w.elim0
  owed t := if t.val = 0 then O₀ c else 0

/-- The data of the program's one call. -/
def pdats : (p : Fin 1) → (c : Dev nD) → Dat τ (Elt F) ℕ ℕ UU ℕ (cfgs p) c
  | 0 => dat0 m

/-- Over no windows nothing is held. -/
theorem bigSep_W {M : Type} [URA M] (Φ : Fin 0 → sProp M) : bigSep Finset.univ Φ = (BI.emp : sProp M) :=
  by rw [Finset.univ_eq_empty]; exact bigSep_empty

/-- What is owed before the call's one step. -/
theorem owed_first (c : Dev nD) : (dat0 m c).owed t0_0.castSucc = O₀ c := by
  show (if ((t0_0.castSucc : Fin (cfg0.N + 1)).val = 0) then O₀ c else 0) = O₀ c; exact if_pos rfl
/-- What is owed when the call begins. -/
theorem owed_zero (c : Dev nD) : (pdats m 0 c).owed 0 = O₀ c := by
  show (if ((0 : Fin (cfg0.N + 1)).val = 0) then O₀ c else 0) = O₀ c; exact if_pos rfl
/-- When the call ends nothing is owed. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- The debt, weighed at a step. -/
theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (iprop(∃ W, owes (c : Thread nD τ) O W) : sProp 𝕄) ⊢ (dat.owesAt 0 t : sProp 𝕄) := by
  unfold Dat.owesAt Pipeline.owesWithin Dat.bound; rw [h0, hr]
  iintro ⟨%W, HO⟩
  iexists W
  isplitr; · ipureintro; exact fun _ _ => Or.inl trivial
  iexact HO
/-- The debt at a step, taken out. -/
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

/-- The state before the call's one step. -/
theorem phi_first (c : Dev nD) : (dat0 m c).Φ t0_0.castSucc = iprop((∃ K, ctx (Th m) (Wo m) K ∗ entry m c) ∗ ∃ r, prngReg c r) := rfl
/-- The state after the call's one step. -/
theorem phi_last (c : Dev nD) : (dat0 m c).Φ t0_0.succ = iprop(leave m c ∗ ∃ r, prngReg c r) := rfl

/-- What the call's one step runs is the kernel. -/
theorem row_kernel (t : Fin cfg0.N) :
    defs₀ (F := F) .tc (cfgs 0).body ((cfgs 0).bodyArgs t ((cfgs 0).slots t)) = kernel (F := F) := by
  unfold defs₀; rw [Defs.onTc_tc]
  exact body_eq t

/-- The kernel's run is the call's step. -/
theorem body0 (c : Dev nD) : BodyObligation (dat0 m c) defs₀ 𝒱₀ 0 Set.univ := fun t => by
  obtain rfl := fin_N0 t
  rw [bigSep_W, bigSep_W, phi_first, phi_last, row_kernel]
  iintro ⟨⟨⟨%K, #Hctx, He⟩, Hreg⟩, HO, -⟩
  ihave HO' := (owesAt_elim (dat0 m c) _ (O₀ c) (owed_first m c)) $$ HO
  iapply (wp_fupd _ _ _ _ _)
  ihave Hst := (entry_owes m c) $$ [He HO']
  · isplitl [He] <;> iassumption
  iapply (wp_kernel (Th m) (Mi m) (Wo m) K c _) $$ [Hst]
  · isplitr; · iexact Hctx
    iexact Hst
  iintro ⟨Hend, Hside⟩
  imod (leave_of m c K) $$ [Hend Hside] with ⟨Hl, Hd⟩
  · isplitr; · iexact Hctx
    isplitl [Hend] <;> iassumption
  imodintro
  isplitl [Hl Hreg]
  · isplitl [Hl] <;> iassumption
  isplitl [Hd]
  · iapply (owesAt_intro (dat0 m c) t0_0.succ 0 (owed_last m c) rfl)
    unfold debt
    rw [← owedFrom_end c 16 (by decide)]
    iexact Hd
  iempintro

/-! ## The call as a segment -/

/-- What the call is handed makes the state before its one step. -/
theorem hin (c : Dev nD) : iprop(Pipeline.scopedRest (Pipeline.pin (pcfgs (F := F)) adm 0).spec c ∗ (∃ r, prngReg c r)
      ∗ StableHlo.held (c.tc : Thread nD τ) bufs (V1 m c) ∗ Xk m c)
    ⊢ ((pdats m 0 c).Φ 0 : sProp 𝕄) := by
  rw [show (pdats m 0 c).Φ 0 = iprop((∃ K, ctx (Th m) (Wo m) K ∗ entry m c) ∗ ∃ r, prngReg c r) from rfl, held_bufs,
    show (Pipeline.scopedRest (Pipeline.pin (pcfgs (F := F)) adm 0).spec c : sProp 𝕄) = vmem c from scopedRest_vmem c]
  unfold Xk
  iintro ⟨Hv, Hp, Hh, ⟨%K, #Hctx, Ho⟩⟩
  isplitr [Hp]
  · iexists K
    isplitr; · iexact Hctx
    iapply (entry_of m c)
    isplitl [Hv]; · iapply (vmem_in c) $$ Hv
    isplitl [Hh]; · iapply (hbm_in m c) $$ Hh
    iexact Ho
  iexact Hp

/-- The state after the one step gives back what the call was handed. -/
theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) bufs (V2 m (outs m) c) ∗ Pipeline.ownSems0 osem c ∗ Yk c) := by
  rw [show (pdats m 0 c).Φ (Fin.last _) = iprop(leave m c ∗ ∃ r, prngReg c r) from rfl, held_bufs, ownSems_eq,
    show (Pipeline.scopedRest (Pipeline.pin (pcfgs (F := F)) adm 0).spec c : sProp 𝕄) = vmem c from scopedRest_vmem c]
  unfold leave
  iintro ⟨⟨Hv, Hh, Hpl, Hz, HY⟩, Hp⟩
  isplitl [Hv]; · iapply (vmem_out c) $$ Hv
  isplitl [Hp]; · iexact Hp
  isplitl [Hh]; · iapply (hbm_out m c) $$ Hh
  isplitr [HY]
  · isplitl [Hpl] <;> iassumption
  iexact HY

/-- The facts about the call's text that the launch wants. -/
theorem kitP : Pipeline.PLaunchFacts (nD := nD) (τ := τ) (pcfgs (F := F)) 0 where
  cellOf_inj a := by rw [Subsingleton.elim a adm]; exact cellOf_inj
  win := (by decide : Pipeline.WinFacts cfg0.spec)
  pre := Pipeline.PreFacts.none _
  block_pos w := w.elim0
  arr_whole w := w.elim0
  stage_whole w := w.elim0

/-- What is owed at the start is owed to cells of the protocol, at levels above zero. -/
theorem owed_cut (c : Dev nD) (t : Fin ((Pipeline.pin (pcfgs (F := F)) adm 0).N + 1)) (g : GSem nD τ sig) (i : ℕ)
    (h : 0 < (pdats m 0 c).owed t g i) : i ∈ L g ∧ 0 < lv g i := by
  have e : (pdats m 0 c).owed t = if t.val = 0 then O₀ c else 0 := rfl
  rw [e] at h
  split at h
  · unfold O₀ at h
    rw [Pi.add_apply, Finsupp.add_apply] at h
    rcases Nat.add_pos_iff_pos_or_pos.mp h with h | h
    · obtain ⟨-, h2, rfl⟩ := owedFrom_pos h
      rw [L_tc, lv_recv, Finset.mem_range]
      exact ⟨h2, by omega⟩
    · rw [tallyAt_apply] at h
      split at h
      · next hg =>
        obtain ⟨rfl, rfl⟩ := hg
        rw [L_tc]
        exact ⟨by decide, Nat.one_pos⟩
      · exact absurd h (Nat.lt_irrefl 0)
  · exact absurd h (Nat.lt_irrefl 0)

set_option backward.isDefEq.respectTransparency.types false in
/-- The kernel call as a segment of the program. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts cfg0.spec osem)
    bufs (Pipeline.ucRefs τ sig) bufs_sub kitP rfl (fun c => (body0 m c).loose)
    (fun _ => 0) O₀ (fun c => (owed_zero m c).trans (zero_add _).symm) (owed_last m) (fun _ => rfl) (fun _ w => w.elim0)
    (V1 m) (V2 m (outs m)) (V2_rest m)
    (Tk m) Yk (Xk m) Yk (hopen m) (hin m) (hout m)
    (fun c => by iintro H; imodintro; iexact H)
    (fun _ => 0)
    ⟨fun _ w => w.elim0, fun _ w => w.elim0, fun c t g i h => owed_cut m c t g i h⟩
    (fun _ => iprop(emp))
    (fun _ w => w.elim0) (fun _ w => w.elim0)

end Cert.KernelIdeal.Run

end
-- ==== Proof.Launch.lean ====
/-
  The launch of the program and its run: every device is dealt its part of the protocol and the credit for what its partner
  owes; the program then terminates, with the arguments as they were, the result as the kernel computes it, and every
  semaphore at zero.
-/
module

public import proofs.«01_k».proof.Proof.Region

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

/-- The partner, as a permutation of the devices. -/
def swap : Dev nD ≃ Dev nD := ⟨peer, peer, peer_peer, peer_peer⟩

/-- The semaphores whose rounds have a token: the sends, the receipts, the barrier. -/
def tokSem : Fin 16 ⊕ (Fin 16 ⊕ Unit) → SemLoc sig
  | .inl n => .dma (sendSem (p2 n.val))
  | .inr (.inl n) => .dma (recvSem (q4 n.val))
  | .inr (.inr _) => .reg barSem
/-- Those rounds. -/
def tokRd : Fin 16 ⊕ (Fin 16 ⊕ Unit) → ℕ
  | .inl n => n.val / 2
  | .inr (.inl n) => n.val / 4
  | .inr (.inr _) => 0

/-- Distinct tokens are for distinct rounds of cells. -/
theorem tok_inj : Function.Injective fun k => (tokSem k, tokRd k) := by
  intro a b h
  have hs : tokSem a = tokSem b := congrArg Prod.fst h
  have hr : tokRd a = tokRd b := congrArg Prod.snd h
  rcases a with a | a | a <;> rcases b with b | b | b <;> simp only [tokSem, tokRd] at hs hr
  · have h1 := congrArg Fin.val (SemLoc.dma.inj hs)
    rw [sendSem_val, sendSem_val] at h1
    have h1 : 4 + a.val % 2 = 4 + b.val % 2 := h1
    exact congrArg _ (Fin.ext (by omega))
  · have h1 := congrArg Fin.val (SemLoc.dma.inj hs)
    rw [sendSem_val, recvSem_val] at h1
    have := (p2 a.val).isLt
    omega
  · exact absurd hs (by simp)
  · have h1 := congrArg Fin.val (SemLoc.dma.inj hs)
    rw [sendSem_val, recvSem_val] at h1
    have := (p2 b.val).isLt
    omega
  · have h1 := congrArg Fin.val (SemLoc.dma.inj hs)
    rw [recvSem_val, recvSem_val] at h1
    have h1 : 6 + a.val % 4 = 6 + b.val % 4 := h1
    exact congrArg (fun x => Sum.inr (Sum.inl x)) (Fin.ext (by omega))
  · exact absurd hs (by simp)
  · exact absurd hs (by simp)
  · exact absurd hs (by simp)
  · rfl

/-- The tokens of all rounds of all devices' cells. -/
def toks : Finset (GSem nD τ sig × ℕ × Unit) :=
  Finset.univ.map ⟨fun ck : Dev nD × (Fin 16 ⊕ (Fin 16 ⊕ Unit)) => (((ck.1 : Thread nD τ), tokSem ck.2), tokRd ck.2, ()), fun _ _ h =>
    Prod.ext (congrArg (fun t : GSem nD τ sig × ℕ × Unit => t.1.1.1) h)
      (tok_inj (Prod.ext (congrArg (fun t : GSem nD τ sig × ℕ × Unit => t.1.2) h) (congrArg (fun t : GSem nD τ sig × ℕ × Unit => t.2.1) h)))⟩

omit [FloatOps F] in
/-- Sixteen in a row, counted as a run. -/
theorem run_fin (Φ : ℕ → sProp 𝕄) : bigSep Finset.univ (fun n : Fin 16 => Φ n.val) = run 0 16 Φ := by
  unfold run
  rw [show Finset.Ico 0 16 = Finset.univ.map (Fin.valEmbedding (n := 16)) from by decide, bigSep_map]
  rfl

omit [FloatOps F] in
/-- The tokens, device by device. -/
theorem toks_eq : bigSep toks (fun x => (dutyTok ER x.1 x.2.1 x.2.2 : sProp 𝕄))
    = bigSep Finset.univ fun c : Dev nD => iprop((run 0 16 fun n => dutyTok ER (sendCell c n) (n / 2) ())
        ∗ (run 0 16 fun n => dutyTok ER (recvCell c n) (n / 4) ()) ∗ dutyTok ER (barCell c) 0 ()) := by
  unfold toks; rw [bigSep_map, bigSep_univ_prod]
  refine bigSep_congr fun c _ => ?_
  rw [bigSep_univ_sum, bigSep_univ_sum]
  refine congrArg₂ _ (run_fin fun n => dutyTok ER (sendCell c n) (n / 2) ()) (congrArg₂ _ (run_fin fun n => dutyTok ER (recvCell c n) (n / 4) ()) ?_)
  rw [show (Finset.univ : Finset Unit) = {()} from rfl, bigSep_singleton]
  rfl

omit [FloatOps F] in
/-- Each device gets the tokens of the duties it discharges: its own sends, the receipts at its partner, its partner's barrier. -/
theorem toks_around : (bigSep toks (fun x => (dutyTok ER x.1 x.2.1 x.2.2 : sProp 𝕄)))
    ⊢ bigSep Finset.univ fun c : Dev nD => iprop(run 0 16 (sendTok c) ∗ dutyTok ER (barCell (peer c)) 0 ()) := by
  have e (c : Dev nD) : (run 0 16 (sendTok c) : sProp 𝕄)
      = iprop((run 0 16 fun n => dutyTok ER (sendCell c n) (n / 2) ()) ∗ (run 0 16 fun n => dutyTok ER (recvCell (peer c) n) (n / 4) ())) := by
    unfold run sendTok; rw [bigSep_sep']
  rw [toks_eq, bigSep_sep', bigSep_sep', bigSep_univ_equiv swap (fun c : Dev nD => (run 0 16 fun n => dutyTok ER (recvCell c n) (n / 4) () : sProp 𝕄)),
    bigSep_univ_equiv swap (fun c : Dev nD => (dutyTok ER (barCell c) 0 () : sProp 𝕄)), bigSep_sep', bigSep_congr (fun c _ => e c), bigSep_sep']
  iintro ⟨H1, H2, H3⟩
  isplitr [H3]
  · isplitl [H1]; · iexact H1
    iexact H2
  iexact H3

/-! ## The credit -/

omit [FloatOps F] in
/-- What each device owes a cell of its partner is credit for the partner. -/
theorem credit_one (sm : SemLoc sig) (i k : ℕ) (c : Dev nD) :
    (Pipeline.launchCred (fun d : Dev nD => tallyAt ((peer d : Thread nD τ), sm) i k) c : sProp 𝕄)
      ⊢ cred (tallyAt ((c : Thread nD τ), sm) i k) := by
  refine (Pipeline.launchCred_elim _ c sm).trans (Entails.of_eq (congrArg cred ?_))
  rw [Pipeline.tallyOn_launchCredit_owing]
  unfold tallyAt
  refine congrArg _ (Finsupp.ext fun u => ?_)
  rw [Finset.sum_apply, Finsupp.finsetSum_apply, Finset.sum_eq_single (peer c)]
  · rw [peer_peer, tallyOn_self]
  · intro d _ hd
    rw [tallyOn_ne]
    · rfl
    · intro h
      have h1 : c = peer d := congrArg (fun g : GSem nD τ sig => g.1.1) h
      exact hd (by rw [h1, peer_peer])
  · intro h; exact absurd (Finset.mem_univ _) h

omit [FloatOps F] in
/-- A device's credit at launch: its partner's signal at the barrier and its partner's sends. -/
theorem creds (c : Dev nD) :
    (Pipeline.launchCred O₀ c : sProp 𝕄) ⊢ iprop(cred (tallyAt (barCell c) 0 1) ∗ run 0 16 (recvCred c)) := by
  have h : ∀ n ∈ Finset.Ico 0 16, (Pipeline.launchCred (fun d : Dev nD => tallyAt (recvCell (peer d) n) n N) c : sProp 𝕄) ⊢ recvCred c n :=
    fun n _ => credit_one (.dma (recvSem (q4 n))) n N c
  have h' : (Pipeline.launchCred (fun d => owedFrom d 0) c : sProp 𝕄) ⊢ run 0 16 (recvCred c) := by
    unfold owedFrom
    rw [Pipeline.launchCred_sum (Finset.Ico 0 16) (fun n d => tallyAt (recvCell (peer d) n) n N) c]
    exact bigSep_mono h
  have e : (Pipeline.launchCred O₀ c : sProp 𝕄) = iprop(Pipeline.launchCred (fun d => owedFrom d 0) c ∗ Pipeline.launchCred (fun d => tallyAt (barCell (peer d)) 0 1) c) :=
    Pipeline.launchCred_add (fun d => owedFrom d 0) (fun d => tallyAt (barCell (peer d)) 0 1) c
  rw [e]
  iintro ⟨H1, H2⟩
  isplitl [H2]; · iapply (credit_one (.reg barSem) 0 1 c) $$ H2
  iapply h' $$ H1

/-! ## The launch state -/

/-- No barrier cell is a send or a receive cell. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have e : scSem ck.2 = .reg barSem := congrArg Prod.snd h
  unfold scSem at e
  exact absurd e (by simp)

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- A resource given whole to device 0. -/
def first (X : sProp 𝕄) (c : Dev nD) : sProp 𝕄 := if c = 0 then X else iprop(emp)
omit [FloatOps F] in
/-- What the first device holds and no other is held once in all. -/
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

/-- The protocol's launch element, with device 0 until it is dealt. -/
def G : Dev nD → sProp 𝕄 := first (BI.own (ER (launchOf barCells scCells toks)))

/-- What every device may consult: the invariants of all cells, and that every barrier cell is at its first round. -/
def records (K : GSem nD τ sig → ℕ) : sProp 𝕄 :=
  iprop(invs (Th m) (Wo m) K ∗ bigSep barCells fun g => reached ER g 0)
/-- The records may be consulted again and again. -/
instance records_persistent (K : GSem nD τ sig → ℕ) : BI.Persistent (records m K) := by unfold records; infer_instance

/-- What is a device's alone: its position at the barrier, the rights to open its other cells, the tokens of its duties. -/
def linear (c : Dev nD) : sProp 𝕄 :=
  iprop(atPos ER (barCell c) 0 ∅ 0 ∗ (bigSep Finset.univ fun k : Fin 6 => openTok ER ((c : Thread nD τ), scSem k))
    ∗ (run 0 16 (sendTok c) ∗ dutyTok ER (barCell (peer c)) 0 ()))

omit [FloatOps F] in
/-- The rights to open the cells, sends and receipts apart. -/
theorem open_split (c : Dev nD) : (bigSep Finset.univ fun k : Fin 6 => (openTok ER ((c : Thread nD τ), scSem k) : sProp 𝕄))
    ⊢ iprop((run 0 2 fun n => openTok ER (sendCell c n)) ∗ (run 0 4 fun n => openTok ER (recvCell c n))) := by
  rw [show (Finset.univ : Finset (Fin 6)) = {0, 1, 2, 3, 4, 5} from by decide, bigSep_insert (by decide), bigSep_insert (by decide),
    bigSep_insert (by decide), bigSep_insert (by decide), bigSep_insert (by decide), bigSep_singleton, run_two, run_four]
  show iprop(openTok ER ((c : Thread nD τ), scSem 0) ∗ openTok ER ((c : Thread nD τ), scSem 1) ∗ openTok ER ((c : Thread nD τ), scSem 2)
    ∗ openTok ER ((c : Thread nD τ), scSem 3) ∗ openTok ER ((c : Thread nD τ), scSem 4) ∗ openTok ER ((c : Thread nD τ), scSem 5)) ⊢ _
  iintro ⟨H0, H1, H2, H3, H4, H5⟩
  isplitl [H0 H1]
  · isplitl [H0]; · iexact H0
    iexact H1
  isplitl [H2]; · iexact H2
  isplitl [H3]; · iexact H3
  isplitl [H4]; · iexact H4
  iexact H5

/-- The records and what is a device's alone make what the device brings to the kernel. -/
theorem ghost_intro (K : GSem nD τ sig → ℕ) (c : Dev nD) : iprop(records m K ∗ linear c) ⊢ (iprop(∃ K, ghost m K c) : sProp 𝕄) := by
  have hr : (bigSep barCells fun g => (reached ER g 0 : sProp 𝕄)) ⊢ reached ER (barCell (peer c)) 0 :=
    bigSep_elim (Finset.mem_map_of_mem barEmb (Finset.mem_univ (peer c)))
  unfold records linear ghost
  iintro ⟨⟨#HI, #HR⟩, HaB, Ho, Ht, HtB⟩
  ihave Ho' := (open_split c) $$ Ho
  icases Ho' with ⟨HoS, HoR⟩
  iexists K
  isplitr; · iexact HI
  isplitl [HaB]; · iexact HaB
  isplitl [HoS]; · iexact HoS
  isplitl [HoR]; · iexact HoR
  isplitr; · iapply hr; iexact HR
  isplitl [HtB] <;> iassumption

/-- The unscoped semaphores are the barrier's. -/
theorem unscoped_eq : ∀ sm : SemLoc sig, sm.isScoped .tc = false → sm = .reg barSem := by decide

omit [FloatOps F] in
/-- The one semaphore that outlives the kernel is the barrier, at zero. -/
theorem unscopedSems0_eq (c : Dev nD) : (unscopedSems0 c : sProp 𝕄) = semVal (barCell c) 0 := by
  unfold unscopedSems0
  rw [show (Finset.univ.filter fun sm : SemLoc sig => ¬ sm.isScoped .tc = true) = {.reg barSem} from by decide, bigSep_singleton]

/-! ## The states between the items -/

/-- Alongside memory: before the call the protocol's launch state, after it the barrier at zero. -/
def rest : Fin 2 → Dev nD → sProp 𝕄
  | 0, c => iprop(Tk m c ∗ (∃ r, prngReg c r) ∗ ∃ W, owes (c : Thread nD τ) (O₀ c) W)
  | 1, c => iprop(Yk c ∗ ∃ W, owes (c : Thread nD τ) (0 : CellTallies nD τ sig ℕ) W)

omit [FloatOps F] in
/-- No array is handed to the call piece by piece. -/
theorem held_arr (c : Dev nD) (V : Valuation τ sig (Elt F)) :
    (StableHlo.held (c.tc : Thread nD τ) (Pipeline.arrRefs (τ := τ) cfg0.spec) V : sProp 𝕄) = BI.emp := by
  have : Pipeline.arrRefs (τ := τ) cfg0.spec = ∅ := by
    unfold Pipeline.arrRefs
    rw [Finset.map_eq_empty, Finset.image_eq_empty, Finset.univ_eq_empty]
  rw [this]
  unfold StableHlo.held
  exact BI.bigSep_empty

/-- What the host operations leave is what the call wants. -/
theorem reg_pre (c : Dev nD) : iprop(StableHlo.held (c : Thread nD τ) (Pipeline.ucRefs τ sig) (V1 m c) ∗ rest m 0 c) ⊢ (reg0 m).pre c := by
  show _ ⊢ iprop(StableHlo.held (c.tc : Thread nD τ) (Pipeline.arrRefs (τ := τ) cfg0.spec) (V1 m c) ∗ (∃ r, prngReg c r)
    ∗ (StableHlo.held (c.tc : Thread nD τ) (Pipeline.ucRefs τ sig) (V1 m c) ∗ emp) ∗ Tk m c ∗ ∃ Wd, owes (c : Thread nD τ) (0 + O₀ c) Wd)
  rw [held_arr, zero_add]
  show iprop(StableHlo.held (c : Thread nD τ) (Pipeline.ucRefs τ sig) (V1 m c) ∗ Tk m c ∗ (∃ r, prngReg c r) ∗ ∃ W, owes (c : Thread nD τ) (O₀ c) W) ⊢ _
  iintro ⟨Hh, HT, Hp, HO⟩
  isplitr; · iempintro
  isplitl [Hp]; · iexact Hp
  isplitl [Hh]
  · isplitl [Hh]; · iexact Hh
    iempintro
  isplitl [HT] <;> iassumption

/-- What the call leaves is what the host operations after it want. -/
theorem reg_post (c : Dev nD) : (reg0 m).post c ⊢ iprop(StableHlo.held (c : Thread nD τ) (Pipeline.ucRefs τ sig) (V2 m (outs m) c) ∗ rest m 1 c) := by
  show iprop(StableHlo.held (c.tc : Thread nD τ) (Pipeline.arrRefs (τ := τ) cfg0.spec) (V2 m (outs m) c) ∗ (∃ r, prngReg c r)
    ∗ (StableHlo.held (c.tc : Thread nD τ) (Pipeline.ucRefs τ sig) (V2 m (outs m) c) ∗ emp) ∗ Yk c ∗ ∃ Wd, owes (c : Thread nD τ) (0 : CellTallies nD τ sig ℕ) Wd)
    ⊢ iprop(StableHlo.held (c : Thread nD τ) (Pipeline.ucRefs τ sig) (V2 m (outs m) c) ∗ Yk c ∗ ∃ W, owes (c : Thread nD τ) (0 : CellTallies nD τ sig ℕ) W)
  rw [held_arr]
  iintro ⟨-, -, ⟨Hh, -⟩, Hb, HO⟩
  isplitl [Hh]; · iexact Hh
  isplitl [Hb] <;> iassumption

/-! ## The run -/

/-- The start of the program on a device. -/
abbrev T₀ (c : Dev nD) : sProp 𝕄 := iprop(StableHlo.held (c : Thread nD τ) (Pipeline.ucRefs τ sig) (V0 m c) ∗ rest m 0 c)
/-- Its end. -/
abbrev Tₙ (c : Dev nD) : sProp 𝕄 := iprop(StableHlo.held (c : Thread nD τ) (Pipeline.ucRefs τ sig) (V3 m (outs m) c) ∗ semVal (barCell c) 0)

/-- A device's launch holdings apart from the protocol's. -/
def bundle (c : Dev nD) : sProp 𝕄 :=
  iprop(StableHlo.held (c : Thread nD τ) (Pipeline.ucRefs τ sig) (V0 m c) ∗ (cred (tallyAt (barCell c) 0 1) ∗ run 0 16 (recvCred c))
    ∗ owes (c : Thread nD τ) (O₀ c) ∅ ∗ ∃ r, prngReg c r)

/-- What the launch deals a device is the state in which it starts. -/
theorem start_intro (K : GSem nD τ sig → ℕ) (c : Dev nD) : iprop(records m K ∗ (linear c ∗ bundle m c)) ⊢ (T₀ m c : sProp 𝕄) := by
  show _ ⊢ iprop(StableHlo.held (c : Thread nD τ) (Pipeline.ucRefs τ sig) (V0 m c) ∗ Tk m c ∗ (∃ r, prngReg c r) ∗ ∃ W, owes (c : Thread nD τ) (O₀ c) W)
  unfold bundle Tk
  iintro ⟨#HR, Hl, Hh, Hc, HO, Hp⟩
  isplitl [Hh]; · iexact Hh
  isplitl [Hl Hc]
  · isplitl [Hl]
    · iapply (ghost_intro m K c)
      isplitr; · iexact HR
      iexact Hl
    iexact Hc
  isplitl [Hp]; · iexact Hp
  iexists ∅; iexact HO

/-- The launch: the cells made, and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems0_eq]
    unfold bundle
    iintro ⟨Hh, Hus, HO, Hcr, Hp, HG⟩
    isplitl [Hh Hcr HO Hp]
    · isplitl [Hh]; · iexact Hh
      isplitl [Hcr]; · iapply (creds c) $$ Hcr
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ bigSep Finset.univ (fun c : Dev nD => (semVal (barCell c) 0 : sProp 𝕄)) ∗ bigSep Finset.univ G) : sProp 𝕄) := by
    rw [← bigSep_sep', ← bigSep_sep']
    exact bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 6 => (openTok ER ((c : Thread nD τ), scSem k) : sProp 𝕄)) :=
    Entails.of_eq (by rw [bigSep_map, bigSep_univ_prod]; rfl)
  have hlin : iprop(bigSep Finset.univ (fun c : Dev nD => (atPos ER (barCell c) 0 ∅ 0 : sProp 𝕄))
        ∗ bigSep Finset.univ (fun c : Dev nD => bigSep Finset.univ fun k : Fin 6 => (openTok ER ((c : Thread nD τ), scSem k) : sProp 𝕄))
        ∗ bigSep Finset.univ (fun c : Dev nD => (iprop(run 0 16 (sendTok c) ∗ dutyTok ER (barCell (peer c)) 0 ()) : sProp 𝕄)))
      ⊢ (bigSep Finset.univ linear : sProp 𝕄) := by
    rw [← bigSep_sep', ← bigSep_sep']
    exact .rfl
  have hpair : iprop(bigSep Finset.univ linear ∗ bigSep Finset.univ (bundle m))
      ⊢ (bigSep Finset.univ (fun c => iprop(linear c ∗ bundle m c)) : sProp 𝕄) := by
    rw [← bigSep_sep']
  have hstart (K : GSem nD τ sig → ℕ) : iprop(records m K ∗ bigSep Finset.univ (fun c => iprop(linear c ∗ bundle m c)))
      ⊢ (bigSep Finset.univ (T₀ m) : sProp 𝕄) :=
    bigSep_with_persistent fun c _ => start_intro m K c
  iintro ⟨H, -⟩
  ihave H' := hall $$ H
  icases H' with ⟨HB, Hv, HG⟩
  ihave Hu := (show bigSep Finset.univ (G (F := F)) ⊢ BI.own (ER (launchOf barCells scCells toks)) from
    Entails.of_eq (bigSep_first (F := F) (BI.own (ER (launchOf barCells scCells toks))))) $$ HG
  imod (Rounds.fund_launch ER (rd (Th m) (Wo m)) disjoint_cells (fun g _ h => h) toks) $$ [Hv Hu] with ⟨%K, -, #Hinv, #Hr, Hat, Hopen, Htok⟩
  · isplitl [Hv]
    · iapply hv $$ Hv
    · iexact Hu
  imodintro
  iapply (hstart K)
  isplitr
  · unfold records invs
    isplitr; · iexact Hinv
    iexact Hr
  iapply hpair
  isplitr [HB]
  · iapply hlin
    isplitl [Hat]; · iapply hat $$ Hat
    isplitl [Hopen]; · iapply hop $$ Hopen
    iapply (toks_around (F := F)) $$ Htok
  · iexact HB

set_option backward.isDefEq.respectTransparency.types false in
/-- The run: from any memory with zero counters every fair execution of the program terminates; in every final state the
    arguments are as they were, the result is as the last valuation has it, and every semaphore is at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v20) = V3 m (outs m) c main_v20) ∧ r.2.sem = fun _ => 0) := by
  refine Pipeline.θ_run_regions_kit_dev_sems (pcfgs (F := F)) adm (pdats m) 0 cellOf_inj EP defs₀ 𝒱₀ L lv m ρ main
    (segs m (outs m) 𝒱₀ L lv (rest m) 0 (pdats m) (reg0 m))
    (fun c Q => by
      rewrite [main_chain c, Pipeline.Seg.run_eq_chain,
        show (segs m (outs m) 𝒱₀ L lv (rest m) 0 (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F)) ?_
    (T₀ := T₀ m) (Tₙ := Tₙ m)
    (hch := fun c => ⟨.rfl, reg_pre m c, reg_post m c, ?_⟩)
    (hinit := init m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v20) = V3 m (outs m) c main_v20) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_first]
    ihave HX' := (own_pair_emb _ _ _) $$ HX
    icases HX' with ⟨HX, -⟩
    iexact HX
  · show iprop(StableHlo.held (c : Thread nD τ) (Pipeline.ucRefs τ sig) (V3 m (outs m) c) ∗ Yk c ∗ ∃ W, owes (c : Thread nD τ) (0 : CellTallies nD τ sig ℕ) W)
      ⊢ iprop(Tₙ m c ∗ ∃ W, owes (c : Thread nD τ) (0 : CellTallies nD τ sig ℕ) W)
    unfold Yk
    iintro ⟨Hh, Hb, HO⟩
    isplitr [HO]
    · isplitl [Hh] <;> iassumption
    · iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      refine ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        h (Proc.devRef .tc main_v20) (Finset.mem_filter.mpr ⟨StableHlo.devRef_mem_tcRefs main_v20, by decide⟩)⟩, by simpa using hb⟩
    iexact HSI

end Cert.KernelIdeal.Run

end
-- ==== Proof.Value.lean ====
/-
  The value: what the run leaves in the result buffer, read at an index over the extended reals, is the reference's sum.
  A device's own product takes the half of the inner axis that it holds, its partner's product the other half.
-/
module

public import proofs.«01_k».proof.Proof.Launch
public import Idealize.ShloMosaic.Lib.Pointwise
public import Idealize.ShloMosaic.Lib.Pointwise.IndexBridge
public import Idealize.ShloMosaic.Lib.Layout
public import Idealize.ShloMosaic.Lib.LayoutAt
public import proofs.«01_k».proof.Proof.Gen.ReferenceIdeal.Run

@[expose] public section

noncomputable section

namespace Cert.KernelIdeal.Run

open Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ)

/-- Half the rows of a device's argument, from a given place on, each row laid out flat. -/
def rowsAt (x : Vec F S4x1024x16x128 .f32) (s : Fin 3 → Int) : Vec F S2048x2048 .f32 :=
  shapeCast S2048x2048 (Host.dynamicSlice S4x512x2048 (shapeCast S4x1024x2048 x shapeCasts_S4x1024x16x128_S4x1024x2048)
    s sliceFits_S4x1024x2048_S4x512x2048) shapeCasts_S4x512x2048_S2048x2048

/-- The first coordinate of a device, as the host operations compute it. -/
def xWord (c : Dev nD) : BitVec 32 := IntOp.remui .host (IntOp.divui .host (Dev.word c) 2#32) 2#32
/-- The first row of a half of the rows, as the host operations compute it from the half's number. -/
def startWord (h : BitVec 32) : BitVec 32 :=
  Scalar.select (IntOp.cmpi .slt (IntOp.muli h 512#32) 0#32) (IntOp.addi (IntOp.muli h 512#32) 1024#32) (IntOp.muli h 512#32)

/-- A device's own rows begin at the half that its first coordinate names. -/
theorem Mi_start (c : Dev nD) : (startWord (xWord c)).toInt = ((512 * (c.val / 2) : ℕ) : Int) := by
  revert c
  decide
/-- The partner's rows begin at the other half. -/
theorem Th_start (c : Dev nD) : (startWord (IntOp.subi 1#32 (xWord c))).toInt = ((512 * (1 - c.val / 2) : ℕ) : Int) := by
  revert c
  decide

/-- The rows that a device keeps: a slice of its argument. -/
theorem Mi_eq (c : Dev nD) : Mi m c = rowsAt (m ((c.tc : Thread nD τ).loc main_arg0)) ![0, (512 * (c.val / 2) : ℕ), 0] := by
  have h0 : after ((hostOps0 c).take 16) (V0 m c) (Proc.devRef .tc main_c_4) = constantI S_ 32 0#32 := by
    dsimp only [List.take]
    after_results
  have h1 : after ((hostOps0 c).take 16) (V0 m c) (Proc.devRef .tc main_v9) = fun _ => startWord (xWord c) := by
    dsimp only [List.take]
    after_results
    rfl
  have h2 : after ((hostOps0 c).take 16) (V0 m c) (Proc.devRef .tc main_c_5) = constantI S_ 32 0#32 := by
    dsimp only [List.take]
    after_results
  unfold Mi
  show after (hostOps0 c) (V0 m c) _ = _
  after_results
  refine congrArg (rowsAt (m ((c.tc : Thread nD τ).loc main_arg0))) (funext fun k => ?_)
  match k with
  | ⟨0, _⟩ => exact congrArg (fun f : Vec F S_ .i32 => BitVec.toInt (f (Shape.Idx.first h_S_))) h0
  | ⟨1, _⟩ => exact (congrArg (fun f : Vec F S_ .i32 => BitVec.toInt (f (Shape.Idx.first h_S_))) h1).trans (Mi_start c)
  | ⟨2, _⟩ => exact congrArg (fun f : Vec F S_ .i32 => BitVec.toInt (f (Shape.Idx.first h_S_))) h2

/-- The partner's rows: the other slice. -/
theorem Th_eq (c : Dev nD) : Th m c = rowsAt (m ((c.tc : Thread nD τ).loc main_arg0)) ![0, (512 * (1 - c.val / 2) : ℕ), 0] := by
  have h0 : after ((hostOps0 c).take 28) (V0 m c) (Proc.devRef .tc main_c_10) = constantI S_ 32 0#32 := by
    dsimp only [List.take]
    after_results
  have h1 : after ((hostOps0 c).take 28) (V0 m c) (Proc.devRef .tc main_v15) = fun _ => startWord (IntOp.subi 1#32 (xWord c)) := by
    dsimp only [List.take]
    after_results
    rfl
  have h2 : after ((hostOps0 c).take 28) (V0 m c) (Proc.devRef .tc main_c_11) = constantI S_ 32 0#32 := by
    dsimp only [List.take]
    after_results
  unfold Th
  show after (hostOps0 c) (V0 m c) _ = _
  after_results
  refine congrArg (rowsAt (m ((c.tc : Thread nD τ).loc main_arg0))) (funext fun k => ?_)
  match k with
  | ⟨0, _⟩ => exact congrArg (fun f : Vec F S_ .i32 => BitVec.toInt (f (Shape.Idx.first h_S_))) h0
  | ⟨1, _⟩ => exact (congrArg (fun f : Vec F S_ .i32 => BitVec.toInt (f (Shape.Idx.first h_S_))) h1).trans (Th_start c)
  | ⟨2, _⟩ => exact congrArg (fun f : Vec F S_ .i32 => BitVec.toInt (f (Shape.Idx.first h_S_))) h2

/-- The rows that a device keeps, read at an index: the row's place within its half, the column's head and lane. -/
theorem rowsAt_apply (x : Vec F S4x1024x16x128 .f32) (h : Fin 2) (b : Fin 4) (r : Fin 512) (k : Fin 2048) :
    rowsAt x ![0, (512 * h.val : ℕ), 0] (ix2 ⟨512 * b.val + r.val, by omega⟩ k)
      = x (ix4 b ⟨512 * h.val + r.val, by omega⟩ ⟨k.val / 128, by omega⟩ ⟨k.val % 128, by omega⟩) := by
  have e0 : Host.clampedStart S4x1024x2048 S4x512x2048 rfl ![0, (512 * h.val : ℕ), 0] 0 = 0 := by
    revert h; decide
  have e1 : Host.clampedStart S4x1024x2048 S4x512x2048 rfl ![0, (512 * h.val : ℕ), 0] 1 = 512 * h.val := by
    revert h; decide
  have e2 : Host.clampedStart S4x1024x2048 S4x512x2048 rfl ![0, (512 * h.val : ℕ), 0] 2 = 0 := by
    revert h; decide
  unfold rowsAt
  pointwise
  simp only [e0, e1, e2, Nat.zero_add]

/-- A band of rows, read at an index. -/
theorem rowsOf_apply (a : Vec F S2048x2048 .f32) (i : Fin 4) (r : Fin 512) (k : Fin 2048) :
    rowsOf a i (ix2 r k) = a (ix2 ⟨512 * i.val + r.val, by omega⟩ k) := by
  refine congrArg a (funext fun x => Fin.ext ?_)
  match x with
  | 0 =>
    show 512 * i.val + 1 * r.val = 512 * i.val + r.val
    rw [Nat.one_mul]
  | 1 =>
    show 0 + 1 * k.val = k.val
    rw [Nat.one_mul, Nat.zero_add]

/-- A product read at an index: the sum over the inner axis. -/
theorem prodV_apply (a : Vec Ideal S2048x2048 .f32) (w : Vec Ideal S2048x256 .f32) (r : Fin 2048) (l : Fin 256) :
    prodV a w (ix2 r l) = ∑ k : Fin 2048, (a (ix2 r k) * w (ix2 k l) : EReal) := by
  show bandV a w ⟨r.val / 512, by omega⟩ (ix2 ⟨r.val % 512, by omega⟩ l) = _
  unfold bandV
  pointwise
  refine Finset.sum_congr rfl fun k _ => ?_
  rw [rowsOf_apply]
  simp only [Nat.div_add_mod]

/-- A column of the weights, found in its block. -/
theorem colsV_apply (w : Vec F S2048x4096 .f32) (k : Fin 2048) (n : Fin 4096) :
    colsV w (n.val / 256) (ix2 k ⟨n.val % 256, by omega⟩) = w (ix2 k n) := by
  show w (ix2 k ⟨(256 * (n.val / 256) + n.val % 256) % 4096, _⟩) = _
  simp only [Nat.div_add_mod, Nat.mod_eq_of_lt n.isLt]

/-- The result of the kernel call read at an index: the own product and the partner's. -/
theorem tile_outV_apply (Th : Dev nD → Vec Ideal S2048x2048 .f32) (Wo : Dev nD → Vec Ideal S2048x4096 .f32)
    (Mi : Dev nD → Vec Ideal S2048x2048 .f32) (c : Dev nD) (r : Fin 2048) (n : Fin 4096) :
    tile (outV Th Wo Mi c) (ix2 r n) = ((∑ k : Fin 2048, (Mi c (ix2 r k) * Wo c (ix2 k n) : EReal))
      + ∑ k : Fin 2048, (Th (peer c) (ix2 r k) * Wo (peer c) (ix2 k n) : EReal) : EReal) := by
  show (prodV (Mi c) (colsV (Wo c) (n.val / 256)) (ix2 r ⟨n.val % 256, by omega⟩)
    + prodV (Th (peer c)) (colsV (Wo (peer c)) (n.val / 256)) (ix2 r ⟨n.val % 256, by omega⟩) : EReal) = _
  simp only [prodV_apply, colsV_apply]

/-- The reference read at an index: the sum over heads and lanes. -/
theorem reference_apply (A : FVec Ideal ⟨4, ![4, 1024, 32, 128]⟩ .f32) (W : FVec Ideal ⟨2, ![4096, 4096]⟩ .f32)
    (b : Fin 4) (t : Fin 1024) (n : Fin 4096) :
    Host.dotGeneral Cert.ReferenceIdeal.dot_S4x1024x4096_S4096x4096_S4x1024x4096_2_0_01_1_n_n none
      (shapeCast _ A Cert.ReferenceIdeal.Gen.shapeCasts_S4x1024x32x128_S4x1024x4096) W (ix3 b t n)
      = ∑ k : Fin 4096, (A (ix4 b t ⟨k.val / 128, by omega⟩ ⟨k.val % 128, by omega⟩) * W (ix2 k n) : EReal) := by
  pointwise

/-- A sum over the inner axis, from its two halves in either order. -/
theorem sum_halves (f : Fin 4096 → EReal) (x : Fin 2) :
    (∑ k : Fin 2048, f ⟨2048 * x.val + k.val, by omega⟩) + ∑ k : Fin 2048, f ⟨2048 * (1 - x.val) + k.val, by omega⟩ = ∑ k, f k := by
  rw [Fin.sum_univ_two_halves 2048 2048 rfl f]
  match x with
  | 0 => simp
  | 1 =>
    refine (add_comm _ _).trans ?_
    simp

/-- A device's first coordinate. -/
def half (c : Dev nD) : Fin 2 := ⟨c.val / 2, by have : c.val < 4 := c.isLt; omega⟩

/-- A device's part of the first argument: the heads of its half. -/
theorem heads_apply (A : FVec Ideal ⟨4, ![4, 1024, 32, 128]⟩ .f32) (c : Dev nD)
    (b : Fin 4) (t : Fin 1024) (q : Fin 16) (l : Fin 128) :
    (Layout.blockN ⟨4, ![4, 1024, 16, 128]⟩ ⟨4, ![4, 1024, 32, 128]⟩ (Layout.meshBlock [2, 2] ![[], [], [0], []] c) A) (ix4 b t q l)
      = A (ix4 b t ⟨16 * (half c).val + q.val, by omega⟩ l) := by
  rw [Layout.blockN_apply]
  refine congrArg A ?_
  unfold half
  fin_cases c <;> shard_ext

/-- A device's part of the second argument: the rows of its half. -/
theorem weights_apply (W : FVec Ideal ⟨2, ![4096, 4096]⟩ .f32) (c : Dev nD) (k : Fin 2048) (n : Fin 4096) :
    (Layout.blockN ⟨2, ![2048, 4096]⟩ ⟨2, ![4096, 4096]⟩ (Layout.meshBlock [2, 2] ![[0], []] c) W) (ix2 k n)
      = W (ix2 ⟨2048 * (half c).val + k.val, by omega⟩ n) := by
  rw [Layout.blockN_apply]
  refine congrArg W ?_
  unfold half
  fin_cases c <;> shard_ext

/-- A device's part of the result: the rows of its half. -/
theorem result_apply (R : FVec Ideal ⟨3, ![4, 1024, 4096]⟩ .f32) (c : Dev nD) (b : Fin 4) (s : Fin 512) (n : Fin 4096) :
    (Layout.blockN ⟨3, ![4, 512, 4096]⟩ ⟨3, ![4, 1024, 4096]⟩ (Layout.meshBlock [2, 2] ![[], [0], []] c) R) (ix3 b s n)
      = R (ix3 b ⟨512 * (half c).val + s.val, by omega⟩ n) := by
  rw [Layout.blockN_apply]
  refine congrArg R ?_
  unfold half
  fin_cases c <;> shard_ext

/-- The partner is in the other half. -/
theorem half_peer (c : Dev nD) : (half (peer c)).val = 1 - (half c).val := by
  revert c
  decide

/-- A product of a row of heads and a column of the whole weights, one term of the reference's sum. -/
def term (A : FVec Ideal ⟨4, ![4, 1024, 32, 128]⟩ .f32) (W : FVec Ideal ⟨2, ![4096, 4096]⟩ .f32)
    (b : Fin 4) (t : Fin 1024) (n k : Fin 4096) : EReal :=
  A (ix4 b t ⟨k.val / 128, by omega⟩ ⟨k.val % 128, by omega⟩) * W (ix2 k n)

/-- One term of a product that a device makes out of its parts of the arguments, as a term of the reference's sum. -/
theorem part_term (A : FVec Ideal ⟨4, ![4, 1024, 32, 128]⟩ .f32) (W : FVec Ideal ⟨2, ![4096, 4096]⟩ .f32) (c : Dev nD) (h : Fin 2)
    (x : Vec Ideal S4x1024x16x128 .f32) (w : Vec Ideal S2048x4096 .f32)
    (hx : x = Layout.blockN ⟨4, ![4, 1024, 16, 128]⟩ ⟨4, ![4, 1024, 32, 128]⟩ (Layout.meshBlock [2, 2] ![[], [], [0], []] c) A)
    (hw : w = Layout.blockN ⟨2, ![2048, 4096]⟩ ⟨2, ![4096, 4096]⟩ (Layout.meshBlock [2, 2] ![[0], []] c) W)
    (b : Fin 4) (s : Fin 512) (n : Fin 4096) (k : Fin 2048) :
    (rowsAt x ![0, (512 * h.val : ℕ), 0] (ix2 ⟨512 * b.val + s.val, by omega⟩ k) * w (ix2 k n) : EReal)
      = term A W b ⟨512 * h.val + s.val, by omega⟩ n ⟨2048 * (half c).val + k.val, by omega⟩ := by
  subst hx hw
  unfold term
  rw [rowsAt_apply, heads_apply, weights_apply]
  congr 4
  · show 16 * (half c).val + k.val / 128 = (2048 * (half c).val + k.val) / 128
    omega
  · show k.val % 128 = (2048 * (half c).val + k.val) % 128
    omega

/-- The result buffer after the last host operation. -/
theorem v20_eq (c : Dev nD) : (V3 m (outs m) c main_v20 : Vec F S4x512x4096 .f32)
    = shapeCast S4x512x4096 (res m c) shapeCasts_S2048x4096_S4x512x4096 := by
  rw [← V2_v19]
  show after hostOps1 (V2 m (outs m) c) _ = _
  after_results
  rfl

/-- The result, read at an index. -/
theorem v20_apply (m : (ℓ : Loc nD τ sig) → Buf (Elt Ideal) ℓ) (c : Dev nD) (b : Fin 4) (s : Fin 512) (n : Fin 4096) :
    (V3 m (outs m) c main_v20 : Vec Ideal S4x512x4096 .f32) (ix3 b s n) = res m c (ix2 ⟨512 * b.val + s.val, by omega⟩ n) := by
  rw [v20_eq]
  pointwise
  simp only [Nat.mul_comm]

/-- The result of a device is its part of the reference's, when its arguments are its parts of the reference's. -/
theorem v20_part (m : (ℓ : Loc nD τ sig) → Buf (Elt Ideal) ℓ)
    (A : FVec Ideal ⟨4, ![4, 1024, 32, 128]⟩ .f32) (W : FVec Ideal ⟨2, ![4096, 4096]⟩ .f32)
    (hA : ∀ c : Dev nD, m ((c.tc : Thread nD τ).loc main_arg0)
      = Layout.blockN ⟨4, ![4, 1024, 16, 128]⟩ ⟨4, ![4, 1024, 32, 128]⟩ (Layout.meshBlock [2, 2] ![[], [], [0], []] c) A)
    (hW : ∀ c : Dev nD, m ((c.tc : Thread nD τ).loc main_arg1)
      = Layout.blockN ⟨2, ![2048, 4096]⟩ ⟨2, ![4096, 4096]⟩ (Layout.meshBlock [2, 2] ![[0], []] c) W) (c : Dev nD) :
    (V3 m (outs m) c main_v20 : Vec Ideal S4x512x4096 .f32)
      = Layout.blockN ⟨3, ![4, 512, 4096]⟩ ⟨3, ![4, 1024, 4096]⟩ (Layout.meshBlock [2, 2] ![[], [0], []] c)
        (Host.dotGeneral (F := Ideal) Cert.ReferenceIdeal.dot_S4x1024x4096_S4096x4096_S4x1024x4096_2_0_01_1_n_n none
          (shapeCast _ A Cert.ReferenceIdeal.Gen.shapeCasts_S4x1024x32x128_S4x1024x4096) W) := by
  have hWo : ∀ c, Wo m c = m ((c.tc : Thread nD τ).loc main_arg1) := fun c => V1_of m c main_arg1 (by decide)
  funext j
  obtain ⟨b, s, n, rfl⟩ : ∃ (b : Fin 4) (s : Fin 512) (n : Fin 4096), j = ix3 b s n := ⟨j 0, j 1, j 2, eq_ix3 j⟩
  rw [v20_apply, result_apply, reference_apply]
  unfold res
  rw [tile_outV_apply]
  have h1 : ∀ k : Fin 2048, (Mi m c (ix2 ⟨512 * b.val + s.val, by omega⟩ k) * Wo m c (ix2 k n) : EReal)
      = term A W b ⟨512 * (half c).val + s.val, by omega⟩ n ⟨2048 * (half c).val + k.val, by omega⟩ := fun k => by
    rw [Mi_eq, hWo]
    exact part_term A W c (half c) _ _ (hA c) (hW c) b s n k
  have h2 : ∀ k : Fin 2048, (Th m (peer c) (ix2 ⟨512 * b.val + s.val, by omega⟩ k) * Wo m (peer c) (ix2 k n) : EReal)
      = term A W b ⟨512 * (half c).val + s.val, by omega⟩ n ⟨2048 * (1 - (half c).val) + k.val, by omega⟩ := fun k => by
    have e : 1 - (peer c).val / 2 = (half c).val := by
      have := half_peer c
      have h : (half (peer c)).val = (peer c).val / 2 := rfl
      have := (half c).isLt
      omega
    rw [Th_eq, hWo, e]
    refine (part_term A W (peer c) (half c) _ _ (hA _) (hW _) b s n k).trans ?_
    simp only [half_peer]
  simp only [h1, h2]
  exact sum_halves (term A W b ⟨512 * (half c).val + s.val, by omega⟩ n) (half c)

end Cert.KernelIdeal.Run

end
-- ==== Proof.Claims.lean ====
/-
  The claims: each program ends, leaves its arguments as they were and every semaphore at zero; and the kernel's result is
  the reference's.
-/
module

public import proofs.«01_k».proof.Defs
public import proofs.«01_k».proof.Proof.Gen.Kernel
public import proofs.«01_k».proof.Proof.Gen.ReferenceIdeal.Run
public import proofs.«01_k».proof.Proof.Value

@[expose] public section

noncomputable section

namespace Cert.Proof

open Idealize.ShloMosaic Idealize.SL.Sem

attribute [local instance] Cert.Kernel.Gen.facts Cert.KernelIdeal.Gen.facts Cert.ReferenceIdeal.Gen.facts

/-- The kernel with its floats read as bits: the one run, for which the values do not matter. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Run.run_main (F := Bits) m ρ)

/-- The kernel with its floats read as extended reals: the same run. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Run.run_main (F := Ideal) m ρ)

/-- The reference, which has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals each device ends holding its part of the reference's result. -/
theorem value_kernelIdeal : Cert.algebraic_KernelIdeal_ReferenceIdeal := fun m ρ m' ρ' _ hagree =>
  ⟨_, (θ_run Cert.KernelIdeal.defs _ _).mono
      (fun _ h c => ⟨(h.1 c).2.2.trans (Cert.KernelIdeal.Run.v20_part m _ _ (fun c => (hagree c).1) (fun c => (hagree c).2) c),
        (h.1 c).1, (h.1 c).2.1⟩)
      (Cert.KernelIdeal.Run.run_main (F := Ideal) m ρ),
    (θ_run Cert.ReferenceIdeal.defs _ _).mono (fun _ h => h 0) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  frame_kernel, frame_kernelIdeal, frame_referenceIdeal, trivial, value_kernelIdeal⟩

end Cert.Proof

end
